-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_FfnOne (m : (ℓ : Loc Cert.FfnOne.nD Cert.FfnOne.τ Cert.FfnOne.sig) → Buf (Elt Bits) ℓ) : Prop :=
  True

def Pre_FfnOneIdeal (m : (ℓ : Loc Cert.FfnOneIdeal.nD Cert.FfnOneIdeal.τ Cert.FfnOneIdeal.sig) → Buf (Elt Ideal) ℓ) : Prop :=
  True

def Pre_FfnOneRefIdeal (m : (ℓ : Loc Cert.FfnOneRefIdeal.nD Cert.FfnOneRefIdeal.τ Cert.FfnOneRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_FfnOne [hFfnOne : Cert.FfnOne.Facts] : Prop :=
  ∀ (m : (ℓ : Loc Cert.FfnOne.nD Cert.FfnOne.τ Cert.FfnOne.sig) → Buf (Elt Bits) ℓ) (g : Dev Cert.FfnOne.nD → PrngReg), Pre_FfnOne m →
    θ_run (Cert.FfnOne.defs (F := Bits)) (onTc (τ := Cert.FfnOne.τ) (Cert.FfnOne.main (F := Bits))) ⟨m, fun _ => 0, g⟩ (fun r => (∀ c : Dev Cert.FfnOne.nD,
      r.2.mem ((c.tc : Thread Cert.FfnOne.nD Cert.FfnOne.τ).loc Cert.FfnOne.main_arg0) = m ((c.tc : Thread Cert.FfnOne.nD Cert.FfnOne.τ).loc Cert.FfnOne.main_arg0)
      ∧ r.2.mem ((c.tc : Thread Cert.FfnOne.nD Cert.FfnOne.τ).loc Cert.FfnOne.main_arg1) = m ((c.tc : Thread Cert.FfnOne.nD Cert.FfnOne.τ).loc Cert.FfnOne.main_arg1)
      ∧ r.2.mem ((c.tc : Thread Cert.FfnOne.nD Cert.FfnOne.τ).loc Cert.FfnOne.main_arg2) = m ((c.tc : Thread Cert.FfnOne.nD Cert.FfnOne.τ).loc Cert.FfnOne.main_arg2)
      ∧ r.2.mem ((c.tc : Thread Cert.FfnOne.nD Cert.FfnOne.τ).loc Cert.FfnOne.main_arg3) = m ((c.tc : Thread Cert.FfnOne.nD Cert.FfnOne.τ).loc Cert.FfnOne.main_arg3)
      ∧ r.2.mem ((c.tc : Thread Cert.FfnOne.nD Cert.FfnOne.τ).loc Cert.FfnOne.main_arg4) = m ((c.tc : Thread Cert.FfnOne.nD Cert.FfnOne.τ).loc Cert.FfnOne.main_arg4)
      ∧ r.2.mem ((c.tc : Thread Cert.FfnOne.nD Cert.FfnOne.τ).loc Cert.FfnOne.main_arg5) = m ((c.tc : Thread Cert.FfnOne.nD Cert.FfnOne.τ).loc Cert.FfnOne.main_arg5))
      ∧ r.2.sem = fun _ => 0)

def quiescent_FfnOneIdeal [hFfnOneIdeal : Cert.FfnOneIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg), Pre_FfnOneIdeal m →
    θ_run (Cert.FfnOneIdeal.defs (F := Ideal)) (onTc (τ := Cert.FfnOneIdeal.τ) (Cert.FfnOneIdeal.main (F := Ideal))) ⟨m, fun _ => 0, g⟩ (fun r => (∀ c : Dev Cert.FfnOneIdeal.nD,
      r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
      ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
      ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
      ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
      ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
      ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5))
      ∧ r.2.sem = fun _ => 0)

def quiescent_FfnOneRefIdeal [hFfnOneRefIdeal : Cert.FfnOneRefIdeal.Facts] : Prop :=
  ∀ (m : (ℓ : Loc Cert.FfnOneRefIdeal.nD Cert.FfnOneRefIdeal.τ Cert.FfnOneRefIdeal.sig) → Buf (Elt Ideal) ℓ) (g : Dev Cert.FfnOneRefIdeal.nD → PrngReg), Pre_FfnOneRefIdeal m →
    θ_run (Cert.FfnOneRefIdeal.defs (F := Ideal)) (onTc (τ := Cert.FfnOneRefIdeal.τ) (Cert.FfnOneRefIdeal.main (F := Ideal))) ⟨m, fun _ => 0, g⟩ (fun r => (∀ c : Dev Cert.FfnOneRefIdeal.nD,
      r.2.mem ((c.tc : Thread Cert.FfnOneRefIdeal.nD Cert.FfnOneRefIdeal.τ).loc Cert.FfnOneRefIdeal.main_arg0) = m ((c.tc : Thread Cert.FfnOneRefIdeal.nD Cert.FfnOneRefIdeal.τ).loc Cert.FfnOneRefIdeal.main_arg0)
      ∧ r.2.mem ((c.tc : Thread Cert.FfnOneRefIdeal.nD Cert.FfnOneRefIdeal.τ).loc Cert.FfnOneRefIdeal.main_arg1) = m ((c.tc : Thread Cert.FfnOneRefIdeal.nD Cert.FfnOneRefIdeal.τ).loc Cert.FfnOneRefIdeal.main_arg1)
      ∧ r.2.mem ((c.tc : Thread Cert.FfnOneRefIdeal.nD Cert.FfnOneRefIdeal.τ).loc Cert.FfnOneRefIdeal.main_arg2) = m ((c.tc : Thread Cert.FfnOneRefIdeal.nD Cert.FfnOneRefIdeal.τ).loc Cert.FfnOneRefIdeal.main_arg2)
      ∧ r.2.mem ((c.tc : Thread Cert.FfnOneRefIdeal.nD Cert.FfnOneRefIdeal.τ).loc Cert.FfnOneRefIdeal.main_arg3) = m ((c.tc : Thread Cert.FfnOneRefIdeal.nD Cert.FfnOneRefIdeal.τ).loc Cert.FfnOneRefIdeal.main_arg3)
      ∧ r.2.mem ((c.tc : Thread Cert.FfnOneRefIdeal.nD Cert.FfnOneRefIdeal.τ).loc Cert.FfnOneRefIdeal.main_arg4) = m ((c.tc : Thread Cert.FfnOneRefIdeal.nD Cert.FfnOneRefIdeal.τ).loc Cert.FfnOneRefIdeal.main_arg4)
      ∧ r.2.mem ((c.tc : Thread Cert.FfnOneRefIdeal.nD Cert.FfnOneRefIdeal.τ).loc Cert.FfnOneRefIdeal.main_arg5) = m ((c.tc : Thread Cert.FfnOneRefIdeal.nD Cert.FfnOneRefIdeal.τ).loc Cert.FfnOneRefIdeal.main_arg5))
      ∧ r.2.sem = fun _ => 0)

def preserves_Kernel_KernelIdeal : Prop :=
  IdealRules.named_const.Statement Cert.KernelIdeal.κ "slope0" .f32 0xBF38AA3B#32 ((-((1 / 2) * (Real.log 2)⁻¹) : ℝ) : EReal)
  ∧ IdealRules.named_const.Statement Cert.KernelIdeal.κ "mask" .f32 0xF149F2CA#32 ⊥
  ∧ IdealRules.named_const.Statement Cert.KernelIdeal.κ "slope1" .f32 0xBEB8AA3B#32 ((-((1 / 4) * (Real.log 2)⁻¹) : ℝ) : EReal)
  ∧ IdealRules.named_const.Statement Cert.KernelIdeal.κ "slope2" .f32 0xBE38AA3B#32 ((-((1 / 8) * (Real.log 2)⁻¹) : ℝ) : EReal)
  ∧ IdealRules.named_const.Statement Cert.KernelIdeal.κ "slope3" .f32 0xBDB8AA3B#32 ((-((1 / 16) * (Real.log 2)⁻¹) : ℝ) : EReal)
  ∧ IdealRules.named_const.Statement Cert.KernelIdeal.κ "slope4" .f32 0xBD38AA3B#32 ((-((1 / 32) * (Real.log 2)⁻¹) : ℝ) : EReal)
  ∧ IdealRules.named_const.Statement Cert.KernelIdeal.κ "slope5" .f32 0xBCB8AA3B#32 ((-((1 / 64) * (Real.log 2)⁻¹) : ℝ) : EReal)
  ∧ IdealRules.named_const.Statement Cert.KernelIdeal.κ "slope6" .f32 0xBC38AA3B#32 ((-((1 / 128) * (Real.log 2)⁻¹) : ℝ) : EReal)
  ∧ IdealRules.named_const.Statement Cert.KernelIdeal.κ "slope7" .f32 0xBBB8AA3B#32 ((-((1 / 256) * (Real.log 2)⁻¹) : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v35) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)) →
    ∃ (v0 : (c : Dev Cert.QkvIdeal.nD) → Buf (Elt Ideal) ((c.tc : Thread Cert.QkvIdeal.nD Cert.QkvIdeal.τ).loc Cert.QkvIdeal.main_v4_0)) (v1 : (c : Dev Cert.QkvIdeal.nD) → Buf (Elt Ideal) ((c.tc : Thread Cert.QkvIdeal.nD Cert.QkvIdeal.τ).loc Cert.QkvIdeal.main_v4_1)) (v2 : (c : Dev Cert.QkvIdeal.nD) → Buf (Elt Ideal) ((c.tc : Thread Cert.QkvIdeal.nD Cert.QkvIdeal.τ).loc Cert.QkvIdeal.main_v4_2)) (v3 : (c : Dev Cert.QkvIdeal.nD) → Buf (Elt Ideal) ((c.tc : Thread Cert.QkvIdeal.nD Cert.QkvIdeal.τ).loc Cert.QkvIdeal.main_v4_3)) (v4 : (c : Dev Cert.QkvIdeal.nD) → Buf (Elt Ideal) ((c.tc : Thread Cert.QkvIdeal.nD Cert.QkvIdeal.τ).loc Cert.QkvIdeal.main_v4_4)) (v5 : (c : Dev Cert.QkvIdeal.nD) → Buf (Elt Ideal) ((c.tc : Thread Cert.QkvIdeal.nD Cert.QkvIdeal.τ).loc Cert.QkvIdeal.main_v4_5)) (v6 : (c : Dev Cert.QkvIdeal.nD) → Buf (Elt Ideal) ((c.tc : Thread Cert.QkvIdeal.nD Cert.QkvIdeal.τ).loc Cert.QkvIdeal.main_v4_6)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4_0) = v0 c
          ∧ r.2.mem ((c.tc : Thread Cert.QkvIdeal.nD Cert.QkvIdeal.τ).loc Cert.QkvIdeal.main_v4_1) = v1 c
          ∧ r.2.mem ((c.tc : Thread Cert.QkvIdeal.nD Cert.QkvIdeal.τ).loc Cert.QkvIdeal.main_v4_2) = v2 c
          ∧ r.2.mem ((c.tc : Thread Cert.QkvIdeal.nD Cert.QkvIdeal.τ).loc Cert.QkvIdeal.main_v4_3) = v3 c
          ∧ r.2.mem ((c.tc : Thread Cert.QkvIdeal.nD Cert.QkvIdeal.τ).loc Cert.QkvIdeal.main_v4_4) = v4 c
          ∧ r.2.mem ((c.tc : Thread Cert.QkvIdeal.nD Cert.QkvIdeal.τ).loc Cert.QkvIdeal.main_v4_5) = v5 c
          ∧ r.2.mem ((c.tc : Thread Cert.QkvIdeal.nD Cert.QkvIdeal.τ).loc Cert.QkvIdeal.main_v4_6) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v14) = v0 c
          ∧ r.2.mem ((c.tc : Thread Cert.QkvRefIdeal.nD Cert.QkvRefIdeal.τ).loc Cert.QkvRefIdeal.main_v17) = v1 c
          ∧ r.2.mem ((c.tc : Thread Cert.QkvRefIdeal.nD Cert.QkvRefIdeal.τ).loc Cert.QkvRefIdeal.main_v18) = v2 c
          ∧ r.2.mem ((c.tc : Thread Cert.QkvRefIdeal.nD Cert.QkvRefIdeal.τ).loc Cert.QkvRefIdeal.main_v19) = v3 c
          ∧ r.2.mem ((c.tc : Thread Cert.QkvRefIdeal.nD Cert.QkvRefIdeal.τ).loc Cert.QkvRefIdeal.main_v20) = v4 c
          ∧ r.2.mem ((c.tc : Thread Cert.QkvRefIdeal.nD Cert.QkvRefIdeal.τ).loc Cert.QkvRefIdeal.main_v21) = v5 c
          ∧ r.2.mem ((c.tc : Thread Cert.QkvRefIdeal.nD Cert.QkvRefIdeal.τ).loc Cert.QkvRefIdeal.main_v22) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v5)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v5) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v16) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_FfnOne_FfnOneIdeal : Prop :=
  True

def algebraic_FfnOneIdeal_FfnOneRefIdeal [hFfnOneIdeal : Cert.FfnOneIdeal.Facts] [hFfnOneRefIdeal : Cert.FfnOneRefIdeal.Facts] : Prop :=
  ∀ (m : (ℓ : Loc Cert.FfnOneIdeal.nD Cert.FfnOneIdeal.τ Cert.FfnOneIdeal.sig) → Buf (Elt Ideal) ℓ) (g : Dev Cert.FfnOneIdeal.nD → PrngReg)
    (m' : (ℓ : Loc Cert.FfnOneRefIdeal.nD Cert.FfnOneRefIdeal.τ Cert.FfnOneRefIdeal.sig) → Buf (Elt Ideal) ℓ) (g' : Dev Cert.FfnOneRefIdeal.nD → PrngReg), Pre_FfnOneIdeal m →
    (∀ c : Dev Cert.FfnOneIdeal.nD,
      m' ((c.tc : Thread Cert.FfnOneRefIdeal.nD Cert.FfnOneRefIdeal.τ).loc Cert.FfnOneRefIdeal.main_arg0) = m ((c.tc : Thread Cert.FfnOneIdeal.nD Cert.FfnOneIdeal.τ).loc Cert.FfnOneIdeal.main_arg0)
      ∧ m' ((c.tc : Thread Cert.FfnOneRefIdeal.nD Cert.FfnOneRefIdeal.τ).loc Cert.FfnOneRefIdeal.main_arg1) = m ((c.tc : Thread Cert.FfnOneIdeal.nD Cert.FfnOneIdeal.τ).loc Cert.FfnOneIdeal.main_arg1)
      ∧ m' ((c.tc : Thread Cert.FfnOneRefIdeal.nD Cert.FfnOneRefIdeal.τ).loc Cert.FfnOneRefIdeal.main_arg2) = m ((c.tc : Thread Cert.FfnOneIdeal.nD Cert.FfnOneIdeal.τ).loc Cert.FfnOneIdeal.main_arg2)
      ∧ m' ((c.tc : Thread Cert.FfnOneRefIdeal.nD Cert.FfnOneRefIdeal.τ).loc Cert.FfnOneRefIdeal.main_arg3) = m ((c.tc : Thread Cert.FfnOneIdeal.nD Cert.FfnOneIdeal.τ).loc Cert.FfnOneIdeal.main_arg3)
      ∧ m' ((c.tc : Thread Cert.FfnOneRefIdeal.nD Cert.FfnOneRefIdeal.τ).loc Cert.FfnOneRefIdeal.main_arg4) = m ((c.tc : Thread Cert.FfnOneIdeal.nD Cert.FfnOneIdeal.τ).loc Cert.FfnOneIdeal.main_arg4)
      ∧ m' ((c.tc : Thread Cert.FfnOneRefIdeal.nD Cert.FfnOneRefIdeal.τ).loc Cert.FfnOneRefIdeal.main_arg5) = m ((c.tc : Thread Cert.FfnOneIdeal.nD Cert.FfnOneIdeal.τ).loc Cert.FfnOneIdeal.main_arg5)) →
    ∃ (v0 : (c : Dev Cert.FfnOneIdeal.nD) → Buf (Elt Ideal) ((c.tc : Thread Cert.FfnOneIdeal.nD Cert.FfnOneIdeal.τ).loc Cert.FfnOneIdeal.main_v8)),
      θ_run (Cert.FfnOneIdeal.defs (F := Ideal)) (onTc (τ := Cert.FfnOneIdeal.τ) (Cert.FfnOneIdeal.main (F := Ideal))) ⟨m, fun _ => 0, g⟩ (fun r => ∀ c : Dev Cert.FfnOneIdeal.nD,
          r.2.mem ((c.tc : Thread Cert.FfnOneIdeal.nD Cert.FfnOneIdeal.τ).loc Cert.FfnOneIdeal.main_v8) = v0 c
          ∧ r.2.mem ((c.tc : Thread Cert.FfnOneIdeal.nD Cert.FfnOneIdeal.τ).loc Cert.FfnOneIdeal.main_arg0) = m ((c.tc : Thread Cert.FfnOneIdeal.nD Cert.FfnOneIdeal.τ).loc Cert.FfnOneIdeal.main_arg0)
          ∧ r.2.mem ((c.tc : Thread Cert.FfnOneIdeal.nD Cert.FfnOneIdeal.τ).loc Cert.FfnOneIdeal.main_arg1) = m ((c.tc : Thread Cert.FfnOneIdeal.nD Cert.FfnOneIdeal.τ).loc Cert.FfnOneIdeal.main_arg1)
          ∧ r.2.mem ((c.tc : Thread Cert.FfnOneIdeal.nD Cert.FfnOneIdeal.τ).loc Cert.FfnOneIdeal.main_arg2) = m ((c.tc : Thread Cert.FfnOneIdeal.nD Cert.FfnOneIdeal.τ).loc Cert.FfnOneIdeal.main_arg2)
          ∧ r.2.mem ((c.tc : Thread Cert.FfnOneIdeal.nD Cert.FfnOneIdeal.τ).loc Cert.FfnOneIdeal.main_arg3) = m ((c.tc : Thread Cert.FfnOneIdeal.nD Cert.FfnOneIdeal.τ).loc Cert.FfnOneIdeal.main_arg3)
          ∧ r.2.mem ((c.tc : Thread Cert.FfnOneIdeal.nD Cert.FfnOneIdeal.τ).loc Cert.FfnOneIdeal.main_arg4) = m ((c.tc : Thread Cert.FfnOneIdeal.nD Cert.FfnOneIdeal.τ).loc Cert.FfnOneIdeal.main_arg4)
          ∧ r.2.mem ((c.tc : Thread Cert.FfnOneIdeal.nD Cert.FfnOneIdeal.τ).loc Cert.FfnOneIdeal.main_arg5) = m ((c.tc : Thread Cert.FfnOneIdeal.nD Cert.FfnOneIdeal.τ).loc Cert.FfnOneIdeal.main_arg5))
      ∧ θ_run (Cert.FfnOneRefIdeal.defs (F := Ideal)) (onTc (τ := Cert.FfnOneRefIdeal.τ) (Cert.FfnOneRefIdeal.main (F := Ideal))) ⟨m', fun _ => 0, g'⟩ (fun r => ∀ c : Dev Cert.FfnOneRefIdeal.nD,
          r.2.mem ((c.tc : Thread Cert.FfnOneRefIdeal.nD Cert.FfnOneRefIdeal.τ).loc Cert.FfnOneRefIdeal.main_v38) = v0 c
          ∧ r.2.mem ((c.tc : Thread Cert.FfnOneRefIdeal.nD Cert.FfnOneRefIdeal.τ).loc Cert.FfnOneRefIdeal.main_arg0) = m' ((c.tc : Thread Cert.FfnOneRefIdeal.nD Cert.FfnOneRefIdeal.τ).loc Cert.FfnOneRefIdeal.main_arg0)
          ∧ r.2.mem ((c.tc : Thread Cert.FfnOneRefIdeal.nD Cert.FfnOneRefIdeal.τ).loc Cert.FfnOneRefIdeal.main_arg1) = m' ((c.tc : Thread Cert.FfnOneRefIdeal.nD Cert.FfnOneRefIdeal.τ).loc Cert.FfnOneRefIdeal.main_arg1)
          ∧ r.2.mem ((c.tc : Thread Cert.FfnOneRefIdeal.nD Cert.FfnOneRefIdeal.τ).loc Cert.FfnOneRefIdeal.main_arg2) = m' ((c.tc : Thread Cert.FfnOneRefIdeal.nD Cert.FfnOneRefIdeal.τ).loc Cert.FfnOneRefIdeal.main_arg2)
          ∧ r.2.mem ((c.tc : Thread Cert.FfnOneRefIdeal.nD Cert.FfnOneRefIdeal.τ).loc Cert.FfnOneRefIdeal.main_arg3) = m' ((c.tc : Thread Cert.FfnOneRefIdeal.nD Cert.FfnOneRefIdeal.τ).loc Cert.FfnOneRefIdeal.main_arg3)
          ∧ r.2.mem ((c.tc : Thread Cert.FfnOneRefIdeal.nD Cert.FfnOneRefIdeal.τ).loc Cert.FfnOneRefIdeal.main_arg4) = m' ((c.tc : Thread Cert.FfnOneRefIdeal.nD Cert.FfnOneRefIdeal.τ).loc Cert.FfnOneRefIdeal.main_arg4)
          ∧ r.2.mem ((c.tc : Thread Cert.FfnOneRefIdeal.nD Cert.FfnOneRefIdeal.τ).loc Cert.FfnOneRefIdeal.main_arg5) = m' ((c.tc : Thread Cert.FfnOneRefIdeal.nD Cert.FfnOneRefIdeal.τ).loc Cert.FfnOneRefIdeal.main_arg5))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hQkv : Cert.Qkv.Facts) (hQkvIdeal : Cert.QkvIdeal.Facts) (hQkvRefIdeal : Cert.QkvRefIdeal.Facts) (hOut : Cert.Out.Facts) (hOutIdeal : Cert.OutIdeal.Facts) (hOutRefIdeal : Cert.OutRefIdeal.Facts) (hFfnOne : Cert.FfnOne.Facts) (hFfnOneIdeal : Cert.FfnOneIdeal.Facts) (hFfnOneRefIdeal : Cert.FfnOneRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Out (hOut := hOut)
    ∧ quiescent_OutIdeal (hOutIdeal := hOutIdeal)
    ∧ quiescent_OutRefIdeal (hOutRefIdeal := hOutRefIdeal)
    ∧ quiescent_FfnOne (hFfnOne := hFfnOne)
    ∧ quiescent_FfnOneIdeal (hFfnOneIdeal := hFfnOneIdeal)
    ∧ quiescent_FfnOneRefIdeal (hFfnOneRefIdeal := hFfnOneRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Qkv_QkvIdeal
    ∧ algebraic_QkvIdeal_QkvRefIdeal (hQkvIdeal := hQkvIdeal) (hQkvRefIdeal := hQkvRefIdeal)
    ∧ preserves_Out_OutIdeal
    ∧ algebraic_OutIdeal_OutRefIdeal (hOutIdeal := hOutIdeal) (hOutRefIdeal := hOutRefIdeal)
    ∧ preserves_FfnOne_FfnOneIdeal
    ∧ algebraic_FfnOneIdeal_FfnOneRefIdeal (hFfnOneIdeal := hFfnOneIdeal) (hFfnOneRefIdeal := hFfnOneRefIdeal)
-- ==== Pre_finite.lean ====
abbrev S4x4096x1024 : Shape := ⟨3, ![4, 4096, 1024]⟩
abbrev S4x4096x256 : Shape := ⟨3, ![4, 4096, 256]⟩
abbrev S4x4096x2048 : Shape := ⟨3, ![4, 4096, 2048]⟩
abbrev S2048x8704 : Shape := ⟨2, ![2048, 8704]⟩
abbrev S4096 : Shape := ⟨1, ![4096]⟩
abbrev S8 : Shape := ⟨1, ![8]⟩
abbrev S1024x2048 : Shape := ⟨2, ![1024, 2048]⟩
abbrev S_ : Shape := ⟨0, ![]⟩

class Facts : Prop where
  bcast_S_S4x4096x1024 : S_.BroadcastsInDim S4x4096x1024 (![] : Fin 0 → Fin S4x4096x1024.rank)
  bcast_S_S4x4096x256 : S_.BroadcastsInDim S4x4096x256 (![] : Fin 0 → Fin S4x4096x256.rank)
  bcast_S_S8 : S_.BroadcastsInDim S8 (![] : Fin 0 → Fin S8.rank)

variable [Facts]

def fn {F : FTy → Type} [FloatOps F] (main_arg0 : FVec F S4x4096x1024 .f32) (main_arg1 : FVec F S4x4096x256 .f32) (main_arg2 : FVec F S4x4096x256 .f32) (main_arg3 : FVec F S4x4096x1024 .f32) (main_arg4 : FVec F S4x4096x1024 .f32) (main_arg5 : FVec F S4x4096x1024 .f32) (main_arg6 : FVec F S4x4096x2048 .f32) (main_arg7 : FVec F S2048x8704 .f32) (main_arg8 : FVec F S4096 .f32) (main_arg9 : FVec F S8 .f32) (main_arg10 : FVec F S1024x2048 .f32) : IVec S4x4096x1024 1 × IVec S4x4096x256 1 × IVec S8 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_v3 : FVec F S4x4096x256 .f32 := Host.absf main_arg1
  let main_cst_0 : FVec F S_ .f32 := constant S_ .f32 0x7F800000#32
  let main_v4 : FVec F S4x4096x256 .f32 := broadcastInDim S4x4096x256 ![] bcast_S_S4x4096x256 main_cst_0
  let main_v5 : IVec S4x4096x256 1 := cmpf .olt main_v3 main_v4
  let main_v6 : FVec F S8 .f32 := Host.absf main_arg9
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  (main_v2, main_v5, main_v8)
-- ==== Kernel.lean ====
abbrev S4x4096x1024 : Shape := ⟨3, ![4, 4096, 1024]⟩
abbrev S4x4096x256 : Shape := ⟨3, ![4, 4096, 256]⟩
abbrev S4x4096x2048 : Shape := ⟨3, ![4, 4096, 2048]⟩
abbrev S2048x8704 : Shape := ⟨2, ![2048, 8704]⟩
abbrev S4096 : Shape := ⟨1, ![4096]⟩
abbrev S8 : Shape := ⟨1, ![8]⟩
abbrev S1024x2048 : Shape := ⟨2, ![1024, 2048]⟩
abbrev S_ : Shape := ⟨0, ![]⟩
abbrev S4x4096x4608 : Shape := ⟨3, ![4, 4096, 4608]⟩
abbrev S2048x4096 : Shape := ⟨2, ![2048, 4096]⟩
abbrev S1x4096 : Shape := ⟨2, ![1, 4096]⟩
abbrev S1x512x1024 : Shape := ⟨3, ![1, 512, 1024]⟩
abbrev S1x128x256 : Shape := ⟨3, ![1, 128, 256]⟩
abbrev S1x512x256 : Shape := ⟨3, ![1, 512, 256]⟩
abbrev S1x512x2048 : Shape := ⟨3, ![1, 512, 2048]⟩
abbrev S2048x2048 : Shape := ⟨2, ![2048, 2048]⟩
abbrev S1x2048 : Shape := ⟨2, ![1, 2048]⟩
abbrev S768x256 : Shape := ⟨2, ![768, 256]⟩
abbrev S3x8x128x384 : Shape := ⟨4, ![3, 8, 128, 384]⟩
abbrev S512x1024 : Shape := ⟨2, ![512, 1024]⟩
abbrev S128x384 : Shape := ⟨2, ![128, 384]⟩
abbrev S1x1x128x384 : Shape := ⟨4, ![1, 1, 128, 384]⟩
abbrev S128x256 : Shape := ⟨2, ![128, 256]⟩
abbrev S512x256 : Shape := ⟨2, ![512, 256]⟩
abbrev S384x128 : Shape := ⟨2, ![384, 128]⟩
abbrev S1x128x128 : Shape := ⟨3, ![1, 128, 128]⟩
abbrev S128x128 : Shape := ⟨2, ![128, 128]⟩
abbrev S512x128 : Shape := ⟨2, ![512, 128]⟩
abbrev S512x384 : Shape := ⟨2, ![512, 384]⟩
abbrev S512x2048 : Shape := ⟨2, ![512, 2048]⟩
abbrev S2048x256 : Shape := ⟨2, ![2048, 256]⟩
abbrev S1x256 : Shape := ⟨2, ![1, 256]⟩
abbrev S1 : Shape := ⟨1, ![1]⟩
abbrev S128 : Shape := ⟨1, ![128]⟩
abbrev S128x1 : Shape := ⟨2, ![128, 1]⟩
abbrev S1x512x512 : Shape := ⟨3, ![1, 512, 512]⟩
abbrev S512x512 : Shape := ⟨2, ![512, 512]⟩
abbrev S1024x512 : Shape := ⟨2, ![1024, 512]⟩

abbrev nBuf : Space → Nat
  | .hbm => 26
  | .vmem => 25
  | .smem => 1
  | _ => 0

abbrev bufTy : (tb : Table) → Fin (tcTables nBuf tb) → BufTy
  | .hbm, ⟨0, _⟩ => ⟨S4x4096x1024, .f32⟩
  | .hbm, ⟨1, _⟩ => ⟨S4x4096x256, .f32⟩
  | .hbm, ⟨2, _⟩ => ⟨S4x4096x256, .f32⟩
  | .hbm, ⟨3, _⟩ => ⟨S4x4096x1024, .f32⟩
  | .hbm, ⟨4, _⟩ => ⟨S4x4096x1024, .f32⟩
  | .hbm, ⟨5, _⟩ => ⟨S4x4096x1024, .f32⟩
  | .hbm, ⟨6, _⟩ => ⟨S4x4096x2048, .f32⟩
  | .hbm, ⟨7, _⟩ => ⟨S2048x8704, .f32⟩
  | .hbm, ⟨8, _⟩ => ⟨S4096, .f32⟩
  | .hbm, ⟨9, _⟩ => ⟨S8, .f32⟩
  | .hbm, ⟨10, _⟩ => ⟨S1024x2048, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x4096x1024, .f32⟩
  | .hbm, ⟨17, _⟩ => ⟨S4x4096x1024, .f32⟩
  | .hbm, ⟨18, _⟩ => ⟨S4x4096x4608, .f32⟩
  | .hbm, ⟨19, _⟩ => ⟨S4x4096x4608, .bf16⟩
  | .hbm, ⟨20, _⟩ => ⟨S4x4096x2048, .bf16⟩
  | .hbm, ⟨21, _⟩ => ⟨S2048x4096, .f32⟩
  | .hbm, ⟨22, _⟩ => ⟨S2048x4096, .bf16⟩
  | .hbm, ⟨23, _⟩ => ⟨S1024x2048, .bf16⟩
  | .hbm, ⟨24, _⟩ => ⟨S1x4096, .f32⟩
  | .hbm, ⟨25, _⟩ => ⟨S4x4096x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x128x256, .bf16⟩
  | .local _ .vmem, ⟨3, _⟩ => ⟨S1x128x256, .bf16⟩
  | .local _ .vmem, ⟨4, _⟩ => ⟨S1x512x256, .bf16⟩
  | .local _ .vmem, ⟨5, _⟩ => ⟨S1x512x256, .bf16⟩
  | .local _ .vmem, ⟨6, _⟩ => ⟨S1x128x256, .bf16⟩
  | .local _ .vmem, ⟨7, _⟩ => ⟨S1x128x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x128x256, .bf16⟩
  | .local _ .vmem, ⟨13, _⟩ => ⟨S1x128x256, .bf16⟩
  | .local _ .vmem, ⟨14, _⟩ => ⟨S1x512x2048, .bf16⟩
  | .local _ .vmem, ⟨15, _⟩ => ⟨S1x512x2048, .bf16⟩
  | .local _ .vmem, ⟨16, _⟩ => ⟨S2048x2048, .bf16⟩
  | .local _ .vmem, ⟨17, _⟩ => ⟨S1024x2048, .bf16⟩
  | .local _ .vmem, ⟨18, _⟩ => ⟨S1x2048, .f32⟩
  | .local _ .vmem, ⟨19, _⟩ => ⟨S1x512x2048, .f32⟩
  | .local _ .vmem, ⟨20, _⟩ => ⟨S1x512x2048, .f32⟩
  | .local _ .vmem, ⟨21, _⟩ => ⟨S768x256, .bf16⟩
  | .local _ .vmem, ⟨22, _⟩ => ⟨S768x256, .bf16⟩
  | .local _ .vmem, ⟨23, _⟩ => ⟨S3x8x128x384, .f32⟩
  | .local _ .vmem, ⟨24, _⟩ => ⟨S512x1024, .bf16⟩
  | .local _ .smem, ⟨0, _⟩ => ⟨S8, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 8], ![false, false]⟩

def k0_off1 (i : grid0.Coords) (c0_i32_29 : BitVec 32) : Fin 4 → Nat :=
  let arg1 : BitVec 32 := BitVec.ofNat 32 (i 1).val
  let c4_i32 : BitVec 32 := 4#32
  let v35 : BitVec 32 := Scalar.muli arg1 c4_i32
  let v36 : BitVec 32 := Scalar.addi v35 c0_i32_29
  let c0_i32_30 : BitVec 32 := 0#32
  let v37 : BitVec 1 := Scalar.cmpi .eq v36 c0_i32_30
  let c0_i32_31 : BitVec 32 := 0#32
  let c31_i32 : BitVec 32 := 31#32
  let v38 : BitVec 1 := Scalar.cmpi .eq v36 c31_i32
  let c2_i32 : BitVec 32 := 2#32
  let c1_i32 : BitVec 32 := 1#32
  let v39 : BitVec 32 := Scalar.select v38 c2_i32 c1_i32
  let v40 : BitVec 32 := Scalar.select v37 c0_i32_31 v39
  let v67 : Index := Scalar.indexCast v40
  let c0_57 : Index := 0#32
  let c0_58 : Index := 0#32
  let c0_59 : Index := 0#32
  ![v67.toNat, 0, 0, 0]
def k0_off2 (i : grid0.Coords) (c0_i32_29 : BitVec 32) : Fin 4 → Nat :=
  let arg1 : BitVec 32 := BitVec.ofNat 32 (i 1).val
  let c4_i32 : BitVec 32 := 4#32
  let v35 : BitVec 32 := Scalar.muli arg1 c4_i32
  let v36 : BitVec 32 := Scalar.addi v35 c0_i32_29
  let c0_i32_30 : BitVec 32 := 0#32
  let v37 : BitVec 1 := Scalar.cmpi .eq v36 c0_i32_30
  let c0_i32_31 : BitVec 32 := 0#32
  let c31_i32 : BitVec 32 := 31#32
  let v38 : BitVec 1 := Scalar.cmpi .eq v36 c31_i32
  let c2_i32 : BitVec 32 := 2#32
  let c1_i32 : BitVec 32 := 1#32
  let v39 : BitVec 32 := Scalar.select v38 c2_i32 c1_i32
  let v40 : BitVec 32 := Scalar.select v37 c0_i32_31 v39
  let v88 : Index := Scalar.indexCast v40
  let c1 : Index := 1#32
  let c0_64 : Index := 0#32
  let c0_65 : Index := 0#32
  ![v88.toNat, 1, 0, 0]
def k0_off3 (i : grid0.Coords) (c0_i32_29 : BitVec 32) : Fin 4 → Nat :=
  let arg1 : BitVec 32 := BitVec.ofNat 32 (i 1).val
  let c4_i32 : BitVec 32 := 4#32
  let v35 : BitVec 32 := Scalar.muli arg1 c4_i32
  let v36 : BitVec 32 := Scalar.addi v35 c0_i32_29
  let c0_i32_30 : BitVec 32 := 0#32
  let v37 : BitVec 1 := Scalar.cmpi .eq v36 c0_i32_30
  let c0_i32_31 : BitVec 32 := 0#32
  let c31_i32 : BitVec 32 := 31#32
  let v38 : BitVec 1 := Scalar.cmpi .eq v36 c31_i32
  let c2_i32 : BitVec 32 := 2#32
  let c1_i32 : BitVec 32 := 1#32
  let v39 : BitVec 32 := Scalar.select v38 c2_i32 c1_i32
  let v40 : BitVec 32 := Scalar.select v37 c0_i32_31 v39
  let v109 : Index := Scalar.indexCast v40
  let c2 : Index := 2#32
  let c0_70 : Index := 0#32
  let c0_71 : Index := 0#32
  ![v109.toNat, 2, 0, 0]
def k0_off4 (i : grid0.Coords) (c0_i32_29 : BitVec 32) : Fin 4 → Nat :=
  let arg1 : BitVec 32 := BitVec.ofNat 32 (i 1).val
  let c4_i32 : BitVec 32 := 4#32
  let v35 : BitVec 32 := Scalar.muli arg1 c4_i32
  let v36 : BitVec 32 := Scalar.addi v35 c0_i32_29
  let c0_i32_30 : BitVec 32 := 0#32
  let v37 : BitVec 1 := Scalar.cmpi .eq v36 c0_i32_30
  let c0_i32_31 : BitVec 32 := 0#32
  let c31_i32 : BitVec 32 := 31#32
  let v38 : BitVec 1 := Scalar.cmpi .eq v36 c31_i32
  let c2_i32 : BitVec 32 := 2#32
  let c1_i32 : BitVec 32 := 1#32
  let v39 : BitVec 32 := Scalar.select v38 c2_i32 c1_i32
  let v40 : BitVec 32 := Scalar.select v37 c0_i32_31 v39
  let v130 : Index := Scalar.indexCast v40
  let c3 : Index := 3#32
  let c0_76 : Index := 0#32
  let c0_77 : Index := 0#32
  ![v130.toNat, 3, 0, 0]
def k0_off5 (i : grid0.Coords) (c0_i32_29 : BitVec 32) : Fin 4 → Nat :=
  let arg1 : BitVec 32 := BitVec.ofNat 32 (i 1).val
  let c4_i32 : BitVec 32 := 4#32
  let v35 : BitVec 32 := Scalar.muli arg1 c4_i32
  let v36 : BitVec 32 := Scalar.addi v35 c0_i32_29
  let c0_i32_30 : BitVec 32 := 0#32
  let v37 : BitVec 1 := Scalar.cmpi .eq v36 c0_i32_30
  let c0_i32_31 : BitVec 32 := 0#32
  let c31_i32 : BitVec 32 := 31#32
  let v38 : BitVec 1 := Scalar.cmpi .eq v36 c31_i32
  let c2_i32 : BitVec 32 := 2#32
  let c1_i32 : BitVec 32 := 1#32
  let v39 : BitVec 32 := Scalar.select v38 c2_i32 c1_i32
  let v40 : BitVec 32 := Scalar.select v37 c0_i32_31 v39
  let v206 : Index := Scalar.indexCast v40
  let c4 : Index := 4#32
  let c0_116 : Index := 0#32
  let c0_117 : Index := 0#32
  ![v206.toNat, 4, 0, 0]
def k0_off6 (i : grid0.Coords) (c0_i32_29 : BitVec 32) : Fin 4 → Nat :=
  let arg1 : BitVec 32 := BitVec.ofNat 32 (i 1).val
  let c4_i32 : BitVec 32 := 4#32
  let v35 : BitVec 32 := Scalar.muli arg1 c4_i32
  let v36 : BitVec 32 := Scalar.addi v35 c0_i32_29
  let c0_i32_30 : BitVec 32 := 0#32
  let v37 : BitVec 1 := Scalar.cmpi .eq v36 c0_i32_30
  let c0_i32_31 : BitVec 32 := 0#32
  let c31_i32 : BitVec 32 := 31#32
  let v38 : BitVec 1 := Scalar.cmpi .eq v36 c31_i32
  let c2_i32 : BitVec 32 := 2#32
  let c1_i32 : BitVec 32 := 1#32
  let v39 : BitVec 32 := Scalar.select v38 c2_i32 c1_i32
  let v40 : BitVec 32 := Scalar.select v37 c0_i32_31 v39
  let v227 : Index := Scalar.indexCast v40
  let c5 : Index := 5#32
  let c0_122 : Index := 0#32
  let c0_123 : Index := 0#32
  ![v227.toNat, 5, 0, 0]
def k0_off7 (i : grid0.Coords) (c0_i32_29 : BitVec 32) : Fin 4 → Nat :=
  let arg1 : BitVec 32 := BitVec.ofNat 32 (i 1).val
  let c4_i32 : BitVec 32 := 4#32
  let v35 : BitVec 32 := Scalar.muli arg1 c4_i32
  let v36 : BitVec 32 := Scalar.addi v35 c0_i32_29
  let c0_i32_30 : BitVec 32 := 0#32
  let v37 : BitVec 1 := Scalar.cmpi .eq v36 c0_i32_30
  let c0_i32_31 : BitVec 32 := 0#32
  let c31_i32 : BitVec 32 := 31#32
  let v38 : BitVec 1 := Scalar.cmpi .eq v36 c31_i32
  let c2_i32 : BitVec 32 := 2#32
  let c1_i32 : BitVec 32 := 1#32
  let v39 : BitVec 32 := Scalar.select v38 c2_i32 c1_i32
  let v40 : BitVec 32 := Scalar.select v37 c0_i32_31 v39
  let v248 : Index := Scalar.indexCast v40
  let c6 : Index := 6#32
  let c0_128 : Index := 0#32
  let c0_129 : Index := 0#32
  ![v248.toNat, 6, 0, 0]
def k0_off8 (i : grid0.Coords) (c0_i32_29 : BitVec 32) : Fin 4 → Nat :=
  let arg1 : BitVec 32 := BitVec.ofNat 32 (i 1).val
  let c4_i32 : BitVec 32 := 4#32
  let v35 : BitVec 32 := Scalar.muli arg1 c4_i32
  let v36 : BitVec 32 := Scalar.addi v35 c0_i32_29
  let c0_i32_30 : BitVec 32 := 0#32
  let v37 : BitVec 1 := Scalar.cmpi .eq v36 c0_i32_30
  let c0_i32_31 : BitVec 32 := 0#32
  let c31_i32 : BitVec 32 := 31#32
  let v38 : BitVec 1 := Scalar.cmpi .eq v36 c31_i32
  let c2_i32 : BitVec 32 := 2#32
  let c1_i32 : BitVec 32 := 1#32
  let v39 : BitVec 32 := Scalar.select v38 c2_i32 c1_i32
  let v40 : BitVec 32 := Scalar.select v37 c0_i32_31 v39
  let v269 : Index := Scalar.indexCast v40
  let c7 : Index := 7#32
  let c0_134 : Index := 0#32
  let c0_135 : Index := 0#32
  ![v269.toNat, 7, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c_m1_i32 : BitVec 32 := 4294967295#32
  let v1 : BitVec 32 := Scalar.addi v0 c_m1_i32
  let c0_i32 : BitVec 32 := 0#32
  let c31_i32 : BitVec 32 := 31#32
  let v2 : BitVec 32 := Scalar.maxsi c0_i32 v1
  let v3 : BitVec 32 := Scalar.minsi c31_i32 v2
  let c16_i32 : BitVec 32 := 16#32
  let c0_i32_0 : BitVec 32 := 0#32
  ![arg0.toNat, v3.toNat, c16_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let c0_i32 : BitVec 32 := 0#32
  ![arg0.toNat, arg1.toNat, c16_i32.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c0_i32 : BitVec 32 := 0#32
  let c31_i32 : BitVec 32 := 31#32
  let v2 : BitVec 32 := Scalar.maxsi c0_i32 v1
  let v3 : BitVec 32 := Scalar.minsi c31_i32 v2
  let c16_i32 : BitVec 32 := 16#32
  let c0_i32_1 : BitVec 32 := 0#32
  ![arg0.toNat, v3.toNat, c16_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c_m1_i32 : BitVec 32 := 4294967295#32
  let v1 : BitVec 32 := Scalar.addi v0 c_m1_i32
  let c0_i32 : BitVec 32 := 0#32
  let c31_i32 : BitVec 32 := 31#32
  let v2 : BitVec 32 := Scalar.maxsi c0_i32 v1
  let v3 : BitVec 32 := Scalar.minsi c31_i32 v2
  let c17_i32 : BitVec 32 := 17#32
  let c0_i32_0 : BitVec 32 := 0#32
  ![arg0.toNat, v3.toNat, c17_i32.toNat]

def cc0_transform_6 (i : grid0.Coords) : Fin 3 → Nat :=
  let arg0 : BitVec 32 := BitVec.ofNat 32 (i 0).val
  let arg1 : BitVec 32 := BitVec.ofNat 32 (i 1).val
  let c17_i32 : BitVec 32 := 17#32
  let c0_i32 : BitVec 32 := 0#32
  ![arg0.toNat, arg1.toNat, c17_i32.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c4_i32_0 : BitVec 32 := 4#32
  let v1 : BitVec 32 := Scalar.addi v0 c4_i32_0
  let c0_i32 : BitVec 32 := 0#32
  let c31_i32 : BitVec 32 := 31#32
  let v2 : BitVec 32 := Scalar.maxsi c0_i32 v1
  let v3 : BitVec 32 := Scalar.minsi c31_i32 v2
  let c17_i32 : BitVec 32 := 17#32
  let c0_i32_1 : BitVec 32 := 0#32
  ![arg0.toNat, v3.toNat, c17_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S2048x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "log2e" => some (((Real.log 2)⁻¹ : ℝ) : EReal)
  | "mask" => some ⊥
  | "slope0" => some ((-((1 / 2) * (Real.log 2)⁻¹) : ℝ) : EReal)
  | "slope1" => some ((-((1 / 4) * (Real.log 2)⁻¹) : ℝ) : EReal)
  | "slope2" => some ((-((1 / 8) * (Real.log 2)⁻¹) : ℝ) : EReal)
  | "slope3" => some ((-((1 / 16) * (Real.log 2)⁻¹) : ℝ) : EReal)
  | "slope4" => some ((-((1 / 32) * (Real.log 2)⁻¹) : ℝ) : EReal)
  | "slope5" => some ((-((1 / 64) * (Real.log 2)⁻¹) : ℝ) : EReal)
  | "slope6" => some ((-((1 / 128) * (Real.log 2)⁻¹) : ℝ) : EReal)
  | "slope7" => some ((-((1 / 256) * (Real.log 2)⁻¹) : ℝ) : EReal)
  | _ => none
-- ==== ReferenceIdeal.lean ====
abbrev S4x4096x1024 : Shape := ⟨3, ![4, 4096, 1024]⟩
abbrev S4x4096x256 : Shape := ⟨3, ![4, 4096, 256]⟩
abbrev S4x4096x2048 : Shape := ⟨3, ![4, 4096, 2048]⟩
abbrev S2048x8704 : Shape := ⟨2, ![2048, 8704]⟩
abbrev S4096 : Shape := ⟨1, ![4096]⟩
abbrev S8 : Shape := ⟨1, ![8]⟩
abbrev S1024x2048 : Shape := ⟨2, ![1024, 2048]⟩
abbrev S4x4096x8x128 : Shape := ⟨4, ![4, 4096, 8, 128]⟩
abbrev S4x4096x2x128 : Shape := ⟨4, ![4, 4096, 2, 128]⟩
abbrev S_ : Shape := ⟨0, ![]⟩
abbrev S4x4352x2x128 : Shape := ⟨4, ![4, 4352, 2, 128]⟩
abbrev S4x32x128x2x128 : Shape := ⟨5, ![4, 32, 128, 2, 128]⟩
abbrev S4x32x384x2x128 : Shape := ⟨5, ![4, 32, 384, 2, 128]⟩
abbrev S4x32x128x2x4x128 : Shape := ⟨6, ![4, 32, 128, 2, 4, 128]⟩
abbrev S4x32x2x384x128x4 : Shape := ⟨6, ![4, 32, 2, 384, 128, 4]⟩
abbrev S4x32x2x4x128x384 : Shape := ⟨6, ![4, 32, 2, 4, 128, 384]⟩
abbrev S128x384 : Shape := ⟨2, ![128, 384]⟩
abbrev S32x1x384 : Shape := ⟨3, ![32, 1, 384]⟩
abbrev S1x128x384 : Shape := ⟨3, ![1, 128, 384]⟩
abbrev S32x128x384 : Shape := ⟨3, ![32, 128, 384]⟩
abbrev S2x4x1x1 : Shape := ⟨4, ![2, 4, 1, 1]⟩
abbrev S1x1x128x384 : Shape := ⟨4, ![1, 1, 128, 384]⟩
abbrev S2x4x128x384 : Shape := ⟨4, ![2, 4, 128, 384]⟩
abbrev S1x32x1x1x128x384 : Shape := ⟨6, ![1, 32, 1, 1, 128, 384]⟩
abbrev S1x1x2x4x128x384 : Shape := ⟨6, ![1, 1, 2, 4, 128, 384]⟩
abbrev S1x1x2x4x1x1 : Shape := ⟨6, ![1, 1, 2, 4, 1, 1]⟩
abbrev S4x32x2x4x128x1 : Shape := ⟨6, ![4, 32, 2, 4, 128, 1]⟩
abbrev S4x32x2x4x128x385 : Shape := ⟨6, ![4, 32, 2, 4, 128, 385]⟩
abbrev S4x32x2x4x128 : Shape := ⟨5, ![4, 32, 2, 4, 128]⟩
abbrev S4x32x2x128x4x128 : Shape := ⟨6, ![4, 32, 2, 128, 4, 128]⟩
abbrev S2048x2048 : Shape := ⟨2, ![2048, 2048]⟩
abbrev S2048 : Shape := ⟨1, ![2048]⟩
abbrev S1x1x2048 : Shape := ⟨3, ![1, 1, 2048]⟩

abbrev nBuf : Space → Nat
  | .hbm => 139
  | .vmem => 0
  | .smem => 0
  | _ => 0

abbrev hbmTy0_0 (i : Nat) : BufTy := match i % 128 with
  | 0 => ⟨S4x4096x1024, .f32⟩
  | 1 => ⟨S4x4096x256, .f32⟩
  | 2 => ⟨S4x4096x256, .f32⟩
  | 3 => ⟨S4x4096x1024, .f32⟩
  | 4 => ⟨S4x4096x1024, .f32⟩
  | 5 => ⟨S4x4096x1024, .f32⟩
  | 6 => ⟨S4x4096x2048, .f32⟩
  | 7 => ⟨S2048x8704, .f32⟩
  | 8 => ⟨S4096, .f32⟩
  | 9 => ⟨S8, .f32⟩
  | 10 => ⟨S1024x2048, .f32⟩
  | 11 => ⟨S4x4096x8x128, .f32⟩
  | 12 => ⟨S4x4096x2x128, .f32⟩
  | 13 => ⟨S4x4096x2x128, .f32⟩
  | 14 => ⟨S_, .i32⟩
  | 15 => ⟨S_, .f32⟩
  | 16 => ⟨S4x4352x2x128, .f32⟩
  | 17 => ⟨S_, .i32⟩
  | 18 => ⟨S_, .f32⟩
  | 19 => ⟨S4x4352x2x128, .f32⟩
  | 20 => ⟨S4x4096x2x128, .f32⟩
  | 21 => ⟨S4x32x128x2x128, .f32⟩
  | 22 => ⟨S4x4096x2x128, .f32⟩
  | 23 => ⟨S4x32x128x2x128, .f32⟩
  | 24 => ⟨S4x4096x2x128, .f32⟩
  | 25 => ⟨S4x32x128x2x128, .f32⟩
  | 26 => ⟨S4x32x384x2x128, .f32⟩
  | 27 => ⟨S4x4096x2x128, .f32⟩
  | 28 => ⟨S4x32x128x2x128, .f32⟩
  | 29 => ⟨S4x4096x2x128, .f32⟩
  | 30 => ⟨S4x32x128x2x128, .f32⟩
  | 31 => ⟨S4x4096x2x128, .f32⟩
  | 32 => ⟨S4x32x128x2x128, .f32⟩
  | 33 => ⟨S4x32x384x2x128, .f32⟩
  | 34 => ⟨S4x32x128x2x4x128, .f32⟩
  | 35 => ⟨S4x32x2x384x128x4, .f32⟩
  | 36 => ⟨S4x32x2x4x128x384, .f32⟩
  | 37 => ⟨S_, .f32⟩
  | 38 => ⟨S_, .f32⟩
  | 39 => ⟨S4x32x2x4x128x384, .f32⟩
  | 40 => ⟨S4x32x2x4x128x384, .f32⟩
  | 41 => ⟨S128x384, .i32⟩
  | 42 => ⟨S128x384, .i32⟩
  | 43 => ⟨S_, .i32⟩
  | 44 => ⟨S128x384, .i32⟩
  | 45 => ⟨S128x384, .i32⟩
  | 46 => ⟨S128x384, .i32⟩
  | 47 => ⟨S128x384, .i32⟩
  | 48 => ⟨S32x1x384, .i32⟩
  | 49 => ⟨S_, .i32⟩
  | 50 => ⟨S32x1x384, .i32⟩
  | 51 => ⟨S32x1x384, .i32⟩
  | 52 => ⟨S_, .i32⟩
  | 53 => ⟨S32x1x384, .i32⟩
  | 54 => ⟨S32x1x384, .i32⟩
  | 55 => ⟨S32x1x384, .i32⟩
  | 56 => ⟨S32x1x384, .i32⟩
  | 57 => ⟨S1x128x384, .i32⟩
  | 58 => ⟨S_, .i32⟩
  | 59 => ⟨S1x128x384, .i32⟩
  | 60 => ⟨S1x128x384, .i1⟩
  | 61 => ⟨S_, .i32⟩
  | 62 => ⟨S32x1x384, .i32⟩
  | 63 => ⟨S32x1x384, .i1⟩
  | 64 => ⟨S32x128x384, .i1⟩
  | 65 => ⟨S32x128x384, .i1⟩
  | 66 => ⟨S32x128x384, .i1⟩
  | 67 => ⟨S_, .i32⟩
  | 68 => ⟨S32x1x384, .i32⟩
  | 69 => ⟨S32x1x384, .i1⟩
  | 70 => ⟨S32x128x384, .i1⟩
  | 71 => ⟨S32x128x384, .i1⟩
  | 72 => ⟨S8, .i32⟩
  | 73 => ⟨S8, .f32⟩
  | 74 => ⟨S_, .f32⟩
  | 75 => ⟨S8, .f32⟩
  | 76 => ⟨S8, .f32⟩
  | 77 => ⟨S_, .f32⟩
  | 78 => ⟨S8, .f32⟩
  | 79 => ⟨S8, .f32⟩
  | 80 => ⟨S_, .f32⟩
  | 81 => ⟨S8, .f32⟩
  | 82 => ⟨S8, .f32⟩
  | 83 => ⟨S_, .f32⟩
  | 84 => ⟨S8, .f32⟩
  | 85 => ⟨S8, .f32⟩
  | 86 => ⟨S2x4x1x1, .f32⟩
  | 87 => ⟨S2x4x1x1, .f32⟩
  | 88 => ⟨S128x384, .f32⟩
  | 89 => ⟨S1x1x128x384, .f32⟩
  | 90 => ⟨S2x4x128x384, .f32⟩
  | 91 => ⟨S2x4x128x384, .f32⟩
  | 92 => ⟨S2x4x128x384, .f32⟩
  | 93 => ⟨S1x32x1x1x128x384, .i1⟩
  | 94 => ⟨S1x1x2x4x128x384, .f32⟩
  | 95 => ⟨S4x32x2x4x128x384, .f32⟩
  | 96 => ⟨S4x32x2x4x128x384, .f32⟩
  | 97 => ⟨S_, .f32⟩
  | 98 => ⟨S_, .f32⟩
  | 99 => ⟨S4x32x2x4x128x384, .i1⟩
  | 100 => ⟨S4x32x2x4x128x384, .f32⟩
  | 101 => ⟨S4x32x2x4x128x384, .f32⟩
  | 102 => ⟨S1x1x2x4x1x1, .f32⟩
  | 103 => ⟨S4x32x2x4x128x1, .f32⟩
  | 104 => ⟨S4x32x2x4x128x385, .f32⟩
  | 105 => ⟨S_, .f32⟩
  | 106 => ⟨S4x32x2x4x128, .f32⟩
  | 107 => ⟨S_, .f32⟩
  | 108 => ⟨S4x32x2x4x128, .f32⟩
  | 109 => ⟨S4x32x2x4x128, .f32⟩
  | 110 => ⟨S4x32x2x4x128x1, .f32⟩
  | 111 => ⟨S4x32x2x4x128x385, .f32⟩
  | 112 => ⟨S4x32x2x4x128x385, .f32⟩
  | 113 => ⟨S4x32x2x4x128x385, .f32⟩
  | 114 => ⟨S_, .f32⟩
  | 115 => ⟨S4x32x2x4x128, .f32⟩
  | 116 => ⟨S4x32x2x4x128x1, .f32⟩
  | 117 => ⟨S4x32x2x4x128x385, .f32⟩
  | 118 => ⟨S4x32x2x4x128x385, .f32⟩
  | 119 => ⟨S4x32x2x4x128x384, .f32⟩
  | 120 => ⟨S4x32x2x128x4x128, .f32⟩
  | 121 => ⟨S4x32x128x2x4x128, .f32⟩
  | 122 => ⟨S4x4096x1024, .f32⟩
  | 123 => ⟨S2048x2048, .f32⟩
  | 124 => ⟨S4x4096x2048, .f32⟩
  | 125 => ⟨S2048, .f32⟩
  | 126 => ⟨S1x1x2048, .f32⟩
  | 127 => ⟨S4x4096x2048, .f32⟩
  | _ => ⟨S4x4096x1024, .f32⟩

abbrev hbmTy0_1 (i : Nat) : BufTy := match i % 128 with
  | 0 => ⟨S4x4096x2048, .f32⟩
  | 1 => ⟨S4x4096x2048, .f32⟩
  | 2 => ⟨S4x4096x2048, .f32⟩
  | 3 => ⟨S_, .f32⟩
  | 4 => ⟨S4x4096x2048, .f32⟩
  | 5 => ⟨S4x4096x2048, .f32⟩
  | 6 => ⟨S_, .f32⟩
  | 7 => ⟨S4x4096x2048, .f32⟩
  | 8 => ⟨S4x4096x2048, .f32⟩
  | 9 => ⟨S4x4096x2048, .f32⟩
  | 10 => ⟨S4x4096x2048, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_c : Ref sig .tc := ⟨.hbm, 14, rfl⟩
abbrev main_call0_v0 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_1 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_2 : Ref sig .tc := ⟨.hbm, 49, rfl⟩
abbrev main_v32 : Ref sig .tc := ⟨.hbm, 50, rfl⟩
abbrev main_v33 : Ref sig .tc := ⟨.hbm, 51, rfl⟩
abbrev main_c_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_6 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_7 : Ref sig .tc := ⟨.hbm, 74, rfl⟩
abbrev main_v52 : Ref sig .tc := ⟨.hbm, 75, rfl⟩
abbrev main_v53 : Ref sig .tc := ⟨.hbm, 76, rfl⟩
abbrev main_cst_8 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_11 : Ref sig .tc := ⟨.hbm, 97, rfl⟩
abbrev main_call2_v0 : Ref sig .tc := ⟨.hbm, 98, rfl⟩
abbrev main_call2_v1 : Ref sig .tc := ⟨.hbm, 99, rfl⟩
abbrev main_call2_v2 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_12 : Ref sig .tc := ⟨.hbm, 105, rfl⟩
abbrev main_v75 : Ref sig .tc := ⟨.hbm, 106, rfl⟩
abbrev main_cst_13 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_cst_14 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_cst_15 : Ref sig .tc := ⟨.hbm, 131, rfl⟩
abbrev main_v98 : Ref sig .tc := ⟨.hbm, 132, rfl⟩
abbrev main_v99 : Ref sig .tc := ⟨.hbm, 133, rfl⟩
abbrev main_cst_16 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩

abbrev nD : Nat := 1
abbrev τ : Topo := Topo.v7x

variable {F : FTy → Type} [FloatOps F]
-- ==== Ffn.lean ====
abbrev S4x4096x2048 : Shape := ⟨3, ![4, 4096, 2048]⟩
abbrev S2048 : Shape := ⟨1, ![2048]⟩
abbrev S2048x11264 : Shape := ⟨2, ![2048, 11264]⟩
abbrev S5632x2048 : Shape := ⟨2, ![5632, 2048]⟩
abbrev S16384x2048 : Shape := ⟨2, ![16384, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S256x2048 : Shape := ⟨2, ![256, 2048]⟩
abbrev S256x512 : Shape := ⟨2, ![256, 512]⟩
abbrev S1024x512 : Shape := ⟨2, ![1024, 512]⟩

abbrev nBuf : Space → Nat
  | .hbm => 11
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2048x11264, .bf16⟩
  | .hbm, ⟨6, _⟩ => ⟨S5632x2048, .bf16⟩
  | .hbm, ⟨7, _⟩ => ⟨S16384x2048, .f32⟩
  | .hbm, ⟨8, _⟩ => ⟨S1x2048, .f32⟩
  | .hbm, ⟨9, _⟩ => ⟨S1x2048, .f32⟩
  | .hbm, ⟨10, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S4x4096x2048 : Shape := ⟨3, ![4, 4096, 2048]⟩
abbrev S2048 : Shape := ⟨1, ![2048]⟩
abbrev S2048x11264 : Shape := ⟨2, ![2048, 11264]⟩
abbrev S5632x2048 : Shape := ⟨2, ![5632, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16384x5632 : Shape := ⟨2, ![16384, 5632]⟩

abbrev nBuf : Space → Nat
  | .hbm => 56
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S16384x2048, .f32⟩
  | .hbm, ⟨6, _⟩ => ⟨S16384x2048, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x11264, .f32⟩
  | .hbm, ⟨23, _⟩ => ⟨S16384x5632, .f32⟩
  | .hbm, ⟨24, _⟩ => ⟨S16384x5632, .f32⟩
  | .hbm, ⟨25, _⟩ => ⟨S16384x5632, .f32⟩
  | .hbm, ⟨26, _⟩ => ⟨S16384x5632, .f32⟩
  | .hbm, ⟨27, _⟩ => ⟨S_, .f32⟩
  | .hbm, ⟨28, _⟩ => ⟨S16384x5632, .f32⟩
  | .hbm, ⟨29, _⟩ => ⟨S16384x5632, .f32⟩
  | .hbm, ⟨30, _⟩ => ⟨S_, .f32⟩
  | .hbm, ⟨31, _⟩ => ⟨S16384x5632, .f32⟩
  | .hbm, ⟨32, _⟩ => ⟨S16384x5632, .f32⟩
  | .hbm, ⟨33, _⟩ => ⟨S16384x5632, .f32⟩
  | .hbm, ⟨34, _⟩ => ⟨S16384x5632, .f32⟩
  | .hbm, ⟨35, _⟩ => ⟨S16384x2048, .f32⟩
  | .hbm, ⟨36, _⟩ => ⟨S16384x2048, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S16384x2048, .f32⟩
  | .hbm, ⟨51, _⟩ => ⟨S16384x2048, .f32⟩
  | .hbm, ⟨52, _⟩ => ⟨S_, .f32⟩
  | .hbm, ⟨53, _⟩ => ⟨S16384x2048, .f32⟩
  | .hbm, ⟨54, _⟩ => ⟨S16384x2048, .f32⟩
  | .hbm, ⟨55, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩

abbrev nD : Nat := 1
abbrev τ : Topo := Topo.v7x

variable {F : FTy → Type} [FloatOps F]
-- ==== Qkv.lean ====
abbrev S4x4096x2048 : Shape := ⟨3, ![4, 4096, 2048]⟩
abbrev S2048 : Shape := ⟨1, ![2048]⟩
abbrev S2048x8704 : Shape := ⟨2, ![2048, 8704]⟩
abbrev S2048x11264 : Shape := ⟨2, ![2048, 11264]⟩
abbrev S5632x2048 : Shape := ⟨2, ![5632, 2048]⟩
abbrev S2048x2048 : Shape := ⟨2, ![2048, 2048]⟩
abbrev S1024x2048 : Shape := ⟨2, ![1024, 2048]⟩
abbrev S16384x2048 : Shape := ⟨2, ![16384, 2048]⟩
abbrev S1x2048 : Shape := ⟨2, ![1, 2048]⟩
abbrev S2048x4608 : Shape := ⟨2, ![2048, 4608]⟩
abbrev S16384x4608 : Shape := ⟨2, ![16384, 4608]⟩
abbrev S512x2048 : Shape := ⟨2, ![512, 2048]⟩
abbrev S64x11264 : Shape := ⟨2, ![64, 11264]⟩
abbrev S176x2048 : Shape := ⟨2, ![176, 2048]⟩
abbrev S64x2048 : Shape := ⟨2, ![64, 2048]⟩
abbrev S32x2048 : Shape := ⟨2, ![32, 2048]⟩
abbrev S512x4608 : Shape := ⟨2, ![512, 4608]⟩
abbrev S32 : Shape := ⟨1, ![32]⟩
abbrev S32x1 : Shape := ⟨2, ![32, 1]⟩
abbrev S256x2048 : Shape := ⟨2, ![256, 2048]⟩
abbrev S256x4608 : Shape := ⟨2, ![256, 4608]⟩

abbrev nBuf : Space → Nat
  | .hbm => 19
  | .vmem => 28
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x8704, .f32⟩
  | .hbm, ⟨3, _⟩ => ⟨S2048x11264, .f32⟩
  | .hbm, ⟨4, _⟩ => ⟨S5632x2048, .f32⟩
  | .hbm, ⟨5, _⟩ => ⟨S2048x2048, .f32⟩
  | .hbm, ⟨6, _⟩ => ⟨S1024x2048, .f32⟩
  | .hbm, ⟨7, _⟩ => ⟨S1024x2048, .f32⟩
  | .hbm, ⟨8, _⟩ => ⟨S16384x2048, .f32⟩
  | .hbm, ⟨9, _⟩ => ⟨S1x2048, .f32⟩
  | .hbm, ⟨10, _⟩ => ⟨S2048x4608, .f32⟩
  | .hbm, ⟨11, _⟩ => ⟨S2048x4608, .bf16⟩
  | .hbm, ⟨12, _⟩ => ⟨S16384x2048, .bf16⟩
  | .hbm, ⟨13, _⟩ => ⟨S16384x4608, .bf16⟩
  | .hbm, ⟨14, _⟩ => ⟨S2048x11264, .bf16⟩
  | .hbm, ⟨15, _⟩ => ⟨S5632x2048, .bf16⟩
  | .hbm, ⟨16, _⟩ => ⟨S2048x2048, .bf16⟩
  | .hbm, ⟨17, _⟩ => ⟨S1024x2048, .bf16⟩
  | .hbm, ⟨18, _⟩ => ⟨S1024x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4608, .bf16⟩
  | .local _ .vmem, ⟨4, _⟩ => ⟨S64x11264, .f32⟩
  | .local _ .vmem, ⟨5, _⟩ => ⟨S64x11264, .f32⟩
  | .local _ .vmem, ⟨6, _⟩ => ⟨S176x2048, .f32⟩
  | .local _ .vmem, ⟨7, _⟩ => ⟨S176x2048, .f32⟩
  | .local _ .vmem, ⟨8, _⟩ => ⟨S64x2048, .f32⟩
  | .local _ .vmem, ⟨9, _⟩ => ⟨S64x2048, .f32⟩
  | .local _ .vmem, ⟨10, _⟩ => ⟨S32x2048, .f32⟩
  | .local _ .vmem, ⟨11, _⟩ => ⟨S32x2048, .f32⟩
  | .local _ .vmem, ⟨12, _⟩ => ⟨S32x2048, .f32⟩
  | .local _ .vmem, ⟨13, _⟩ => ⟨S32x2048, .f32⟩
  | .local _ .vmem, ⟨14, _⟩ => ⟨S512x2048, .bf16⟩
  | .local _ .vmem, ⟨15, _⟩ => ⟨S512x2048, .bf16⟩
  | .local _ .vmem, ⟨16, _⟩ => ⟨S512x4608, .bf16⟩
  | .local _ .vmem, ⟨17, _⟩ => ⟨S512x4608, .bf16⟩
  | .local _ .vmem, ⟨18, _⟩ => ⟨S64x11264, .bf16⟩
  | .local _ .vmem, ⟨19, _⟩ => ⟨S64x11264, .bf16⟩
  | .local _ .vmem, ⟨20, _⟩ => ⟨S176x2048, .bf16⟩
  | .local _ .vmem, ⟨21, _⟩ => ⟨S176x2048, .bf16⟩
  | .local _ .vmem, ⟨22, _⟩ => ⟨S64x2048, .bf16⟩
  | .local _ .vmem, ⟨23, _⟩ => ⟨S64x2048, .bf16⟩
  | .local _ .vmem, ⟨24, _⟩ => ⟨S32x2048, .bf16⟩
  | .local _ .vmem, ⟨25, _⟩ => ⟨S32x2048, .bf16⟩
  | .local _ .vmem, ⟨26, _⟩ => ⟨S32x2048, .bf16⟩
  | .local _ .vmem, ⟨27, _⟩ => ⟨S32x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S64x11264 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x4608 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x11264 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S176x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== QkvRefIdeal.lean ====
abbrev S4x4096x2048 : Shape := ⟨3, ![4, 4096, 2048]⟩
abbrev S2048 : Shape := ⟨1, ![2048]⟩
abbrev S2048x8704 : Shape := ⟨2, ![2048, 8704]⟩
abbrev S2048x11264 : Shape := ⟨2, ![2048, 11264]⟩
abbrev S5632x2048 : Shape := ⟨2, ![5632, 2048]⟩
abbrev S2048x2048 : Shape := ⟨2, ![2048, 2048]⟩
abbrev S1024x2048 : Shape := ⟨2, ![1024, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048x4608 : Shape := ⟨2, ![2048, 4608]⟩
abbrev S16384x4608 : Shape := ⟨2, ![16384, 4608]⟩

abbrev nBuf : Space → Nat
  | .hbm => 34
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x8704, .f32⟩
  | .hbm, ⟨3, _⟩ => ⟨S2048x11264, .f32⟩
  | .hbm, ⟨4, _⟩ => ⟨S5632x2048, .f32⟩
  | .hbm, ⟨5, _⟩ => ⟨S2048x2048, .f32⟩
  | .hbm, ⟨6, _⟩ => ⟨S1024x2048, .f32⟩
  | .hbm, ⟨7, _⟩ => ⟨S1024x2048, .f32⟩
  | .hbm, ⟨8, _⟩ => ⟨S16384x2048, .f32⟩
  | .hbm, ⟨9, _⟩ => ⟨S16384x2048, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x2048, .f32⟩
  | .hbm, ⟨21, _⟩ => ⟨S16384x2048, .f32⟩
  | .hbm, ⟨22, _⟩ => ⟨S1x2048, .f32⟩
  | .hbm, ⟨23, _⟩ => ⟨S16384x2048, .f32⟩
  | .hbm, ⟨24, _⟩ => ⟨S16384x2048, .f32⟩
  | .hbm, ⟨25, _⟩ => ⟨S16384x2048, .bf16⟩
  | .hbm, ⟨26, _⟩ => ⟨S2048x4608, .f32⟩
  | .hbm, ⟨27, _⟩ => ⟨S16384x4608, .f32⟩
  | .hbm, ⟨28, _⟩ => ⟨S16384x4608, .bf16⟩
  | .hbm, ⟨29, _⟩ => ⟨S2048x11264, .bf16⟩
  | .hbm, ⟨30, _⟩ => ⟨S5632x2048, .bf16⟩
  | .hbm, ⟨31, _⟩ => ⟨S2048x2048, .bf16⟩
  | .hbm, ⟨32, _⟩ => ⟨S1024x2048, .bf16⟩
  | .hbm, ⟨33, _⟩ => ⟨S1024x2048, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Out.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S1x2048 : Shape := ⟨2, ![1, 2048]⟩
abbrev S1024x2048 : Shape := ⟨2, ![1024, 2048]⟩
abbrev S256x2048 : Shape := ⟨2, ![256, 2048]⟩
abbrev S32x2048 : Shape := ⟨2, ![32, 2048]⟩
abbrev S32 : Shape := ⟨1, ![32]⟩
abbrev S32x1 : Shape := ⟨2, ![32, 1]⟩

abbrev nBuf : Space → Nat
  | .hbm => 10
  | .vmem => 8
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S2048, .f32⟩
  | .hbm, ⟨4, _⟩ => ⟨S16384x2048, .f32⟩
  | .hbm, ⟨5, _⟩ => ⟨S16384x2048, .bf16⟩
  | .hbm, ⟨6, _⟩ => ⟨S16384x2048, .f32⟩
  | .hbm, ⟨7, _⟩ => ⟨S2048x2048, .bf16⟩
  | .hbm, ⟨8, _⟩ => ⟨S1x2048, .f32⟩
  | .hbm, ⟨9, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x2048, .bf16⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== OutRefIdeal.lean ====
abbrev S4x4096x2048 : Shape := ⟨3, ![4, 4096, 2048]⟩
abbrev S2048x2048 : Shape := ⟨2, ![2048, 2048]⟩
abbrev S2048 : Shape := ⟨1, ![2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S2048x2048, .f32⟩
  | .hbm, ⟨3, _⟩ => ⟨S2048, .f32⟩
  | .hbm, ⟨4, _⟩ => ⟨S16384x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FfnOne.lean ====
abbrev S4x4096x2048 : Shape := ⟨3, ![4, 4096, 2048]⟩
abbrev S2048 : Shape := ⟨1, ![2048]⟩
abbrev S2048x11264 : Shape := ⟨2, ![2048, 11264]⟩
abbrev S5632x2048 : Shape := ⟨2, ![5632, 2048]⟩
abbrev S16384x2048 : Shape := ⟨2, ![16384, 2048]⟩
abbrev S1x2048 : Shape := ⟨2, ![1, 2048]⟩
abbrev S2048x5632 : Shape := ⟨2, ![2048, 5632]⟩
abbrev S1024x2048 : Shape := ⟨2, ![1024, 2048]⟩
abbrev S2048x512 : Shape := ⟨2, ![2048, 512]⟩
abbrev S512x2048 : Shape := ⟨2, ![512, 2048]⟩
abbrev S32x2048 : Shape := ⟨2, ![32, 2048]⟩
abbrev S32 : Shape := ⟨1, ![32]⟩
abbrev S32x1 : Shape := ⟨2, ![32, 1]⟩
abbrev S256x2048 : Shape := ⟨2, ![256, 2048]⟩
abbrev S256x512 : Shape := ⟨2, ![256, 512]⟩
abbrev S1024x512 : Shape := ⟨2, ![1024, 512]⟩

abbrev nBuf : Space → Nat
  | .hbm => 15
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S16384x2048, .f32⟩
  | .hbm, ⟨6, _⟩ => ⟨S16384x2048, .f32⟩
  | .hbm, ⟨7, _⟩ => ⟨S1x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .bf16⟩
  | .hbm, ⟨13, _⟩ => ⟨S1x2048, .f32⟩
  | .hbm, ⟨14, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | .local _ .vmem, ⟨12, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![15, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c10_i32 : BitVec 32 := 10#32
  let v4 : BitVec 1 := Scalar.cmpi .slt arg1 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c10_i32_3 : BitVec 32 := 10#32
  let v8 : BitVec 1 := Scalar.cmpi .eq arg1 c10_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnOneRefIdeal.lean ====
abbrev S4x4096x2048 : Shape := ⟨3, ![4, 4096, 2048]⟩
abbrev S2048 : Shape := ⟨1, ![2048]⟩
abbrev S2048x11264 : Shape := ⟨2, ![2048, 11264]⟩
abbrev S5632x2048 : Shape := ⟨2, ![5632, 2048]⟩
abbrev S16384x2048 : Shape := ⟨2, ![16384, 2048]⟩
abbrev S1024x2048 : Shape := ⟨2, ![1024, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x11264 : Shape := ⟨2, ![16384, 11264]⟩
abbrev S16384x5632 : Shape := ⟨2, ![16384, 5632]⟩
abbrev S15360x2048 : Shape := ⟨2, ![15360, 2048]⟩

abbrev nBuf : Space → Nat
  | .hbm => 60
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S16384x2048, .f32⟩
  | .hbm, ⟨6, _⟩ => ⟨S1024x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S16384x11264, .f32⟩
  | .hbm, ⟨25, _⟩ => ⟨S16384x5632, .f32⟩
  | .hbm, ⟨26, _⟩ => ⟨S16384x5632, .f32⟩
  | .hbm, ⟨27, _⟩ => ⟨S16384x5632, .f32⟩
  | .hbm, ⟨28, _⟩ => ⟨S16384x5632, .f32⟩
  | .hbm, ⟨29, _⟩ => ⟨S_, .f32⟩
  | .hbm, ⟨30, _⟩ => ⟨S16384x5632, .f32⟩
  | .hbm, ⟨31, _⟩ => ⟨S16384x5632, .f32⟩
  | .hbm, ⟨32, _⟩ => ⟨S_, .f32⟩
  | .hbm, ⟨33, _⟩ => ⟨S16384x5632, .f32⟩
  | .hbm, ⟨34, _⟩ => ⟨S16384x5632, .f32⟩
  | .hbm, ⟨35, _⟩ => ⟨S16384x5632, .f32⟩
  | .hbm, ⟨36, _⟩ => ⟨S16384x5632, .f32⟩
  | .hbm, ⟨37, _⟩ => ⟨S16384x2048, .f32⟩
  | .hbm, ⟨38, _⟩ => ⟨S16384x2048, .f32⟩
  | .hbm, ⟨39, _⟩ => ⟨S_, .f32⟩
  | .hbm, ⟨40, _⟩ => ⟨S16384, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S16384x1, .f32⟩
  | .hbm, ⟨49, _⟩ => ⟨S16384x2048, .f32⟩
  | .hbm, ⟨50, _⟩ => ⟨S16384x2048, .f32⟩
  | .hbm, ⟨51, _⟩ => ⟨S1x2048, .f32⟩
  | .hbm, ⟨52, _⟩ => ⟨S16384x2048, .f32⟩
  | .hbm, ⟨53, _⟩ => ⟨S16384x2048, .f32⟩
  | .hbm, ⟨54, _⟩ => ⟨S_, .f32⟩
  | .hbm, ⟨55, _⟩ => ⟨S16384x2048, .f32⟩
  | .hbm, ⟨56, _⟩ => ⟨S16384x2048, .f32⟩
  | .hbm, ⟨57, _⟩ => ⟨S16384x2048, .f32⟩
  | .hbm, ⟨58, _⟩ => ⟨S15360x2048, .f32⟩
  | .hbm, ⟨59, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_2 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩

abbrev nD : Nat := 1
abbrev τ : Topo := Topo.v7x

variable {F : FTy → Type} [FloatOps F]
-- ==== Proof.FfnSpec.lean ====
/- The feed-forward half-step as functions of rows: the RMS norm of a row, the gated activation of a
   normalized row against one column of each of the two weight matrices, and the whole half-step. -/
module

public import Idealize.ShloMosaic.PureOps.Ideal
public import Idealize.ShloMosaic.Lib.Pointwise

@[expose] public section

noncomputable section

namespace Cert.FfnSpec

open Idealize.ShloMosaic

/-- The factor the RMS norm multiplies a row by: one over the root of its mean square plus epsilon. -/
def scale (x : Fin 2048 → EReal) : EReal :=
  Ideal.rsqrt (Ideal.div (∑ l, x l * x l) (Ideal.ofBits .f32 0x45000000#32) + Ideal.ofBits .f32 0x358637BD#32)

/-- The RMS norm of the row `x` with gain `g`, at column `k`. -/
def norm (x g : Fin 2048 → EReal) (k : Fin 2048) : EReal := x k * scale x * g k

/-- The logistic function, as a quotient. -/
def sig (x : EReal) : EReal := Ideal.div 1 (1 + Ideal.exp (-x))

/-- The product of a row and a column. -/
def dot {K : ℕ} (n w : Fin K → EReal) : EReal := ∑ k, n k * w k

/-- The gated activation of a row against one gate column and one up column. -/
def act (n wg wu : Fin 2048 → EReal) : EReal := dot n wg * sig (dot n wg) * dot n wu

/-- Sums built up chunk by chunk over runs of eleven points: the first point of a run sets the normalized rows `s` and the
    first chunk, the next nine keep `s` and add their chunk to `o`. `ρ` gives the row of the array a block's row is. -/
theorem chunks {N : ℕ} (s o : (n : ℕ) → n < N → Fin 1024 → Fin 2048 → EReal) (ρ : (n : ℕ) → n < N → Fin 1024 → Fin 16384)
    (nr : Fin 16384 → Fin 2048 → EReal) (cc : Fin 16384 → Fin 2048 → ℕ → EReal)
    (hρ : ∀ n (hn : n + 1 < N), (n + 1) % 11 ≠ 0 → ρ (n + 1) hn = ρ n (by omega))
    (hs : ∀ n hn, n % 11 = 0 → ∀ a k, s n hn a k = nr (ρ n hn a) k)
    (ho : ∀ n hn, n % 11 = 0 → ∀ a b, o n hn a b = cc (ρ n hn a) b 0)
    (ks : ∀ n (hn : n + 1 < N), (n + 1) % 11 ≠ 0 → s (n + 1) hn = s n (by omega))
    (ko : ∀ n (hn : n + 1 < N), 1 ≤ (n + 1) % 11 ∧ (n + 1) % 11 ≤ 9 → (∀ a k, s n (by omega) a k = nr (ρ (n + 1) hn a) k) →
      ∀ a b, o (n + 1) hn a b = o n (by omega) a b + cc (ρ (n + 1) hn a) b ((n + 1) % 11)) (n : ℕ) : ∀ hn : n < N,
    (∀ a k, s n hn a k = nr (ρ n hn a) k)
    ∧ (n % 11 ≤ 9 → ∀ a b, o n hn a b = ∑ j ∈ Finset.range (n % 11 + 1), cc (ρ n hn a) b j) := by
  have first : ∀ n hn, n % 11 = 0 → (∀ a k, s n hn a k = nr (ρ n hn a) k)
      ∧ (n % 11 ≤ 9 → ∀ a b, o n hn a b = ∑ j ∈ Finset.range (n % 11 + 1), cc (ρ n hn a) b j) := fun n hn h0 =>
    ⟨hs n hn h0, fun _ a b => by rw [ho n hn h0 a b, h0]; exact (Finset.sum_range_one _).symm⟩
  induction n with
  | zero => exact fun hn => first 0 hn rfl
  | succ n ih =>
    intro hn
    by_cases h0 : (n + 1) % 11 = 0
    · exact first (n + 1) hn h0
    · obtain ⟨i1, i2⟩ := ih (by omega)
      have e := hρ n hn h0
      have i1' : ∀ a k, s n (by omega) a k = nr (ρ (n + 1) hn a) k := fun a k => by rw [i1 a k, e]
      refine ⟨fun a k => by rw [ks n hn h0]; exact i1' a k, fun h9 a b => ?_⟩
      rw [ko n hn ⟨by omega, h9⟩ i1' a b, i2 (by omega) a b, e, show (n + 1) % 11 = n % 11 + 1 by omega]
      exact (Finset.sum_range_succ _ _).symm

end Cert.FfnSpec

end
-- ==== Proof.FfnPay.lean ====
/- What the points of the feed-forward kernel leave in its output block and in its scratch, over their input blocks. -/
module

public import proofs.«01_k».proof.Proof.FfnSpec
public import proofs.«01_k».proof.Proof.Gen.FfnIdeal.Value
public import Idealize.ShloMosaic.Lib.Pipeline.ValueKit
public import Idealize.ShloMosaic.Lib.Pipeline.ReadBack

@[expose] public section

set_option maxRecDepth 16384

noncomputable section

namespace Cert.FfnIdeal.Pay

open Cert.FfnIdeal Cert.FfnIdeal.Gen Cert.FfnIdeal.Value Cert.FfnSpec
open Idealize.ShloMosaic Idealize.ShloMosaic.TcCoe Idealize.SL.Sem

variable (m : (ℓ : Loc nD τ sig) → Buf (Elt Ideal) ℓ)

/-- The normalized rows of a block `x0` with gains `x1`. -/
def NB (x0 : FVec Ideal S1024x2048 .f32) (x1 : FVec Ideal S1x2048 .f32) : FVec Ideal S1024x2048 .bf16 := fun y =>
  norm (fun k => x0 (ix2 (y 0) k)) (fun k => x1 (ix2 0 k)) (y 1)

/-- The gated product of the rows `n` over one chunk of 512 hidden columns. -/
def SW (n : FVec Ideal S1024x2048 .bf16) (x2 x3 : FVec Ideal S2048x512 .bf16) (x4 : FVec Ideal S512x2048 .bf16) :
    FVec Ideal S1024x2048 .f32 := fun y =>
  ∑ l : Fin 512, act (fun k => n (ix2 (y 0) k)) (fun k => x2 (ix2 k l)) (fun k => x3 (ix2 k l)) * x4 (ix2 l (y 1))

theorem norm_at (X : FVec Ideal S1024x2048 .f32) (G : FVec Ideal S1x2048 .f32) (y : S1024x2048.Idx) :
    NB X G y = X (ix2 (y 0) (y 1)) * Ideal.rsqrt (Ideal.div (∑ l, X (ix2 (y 0) l) * X (ix2 (y 0) l)) (Ideal.ofBits .f32 0x45000000#32)
      + Ideal.ofBits .f32 0x358637BD#32) * G (ix2 0 (y 1)) := rfl

theorem sout_A (c : Dev nD) (t : Fin cfg0.N) (h0 : t.val % 11 = 0) :
    (outsAt0 m c t.val t.isLt).2 = NB (iblk m c 0 t) (iblk m c 1 t) := by
  rw [outsAt0_A m c t h0 (by omega) (by omega)]
  funext y
  frame_out
  canon_tiles x h
  all_goals
    open_payloads
    pointwise [norm_at]
    blk_point []

theorem at_index {α : Type} (f : S1024x2048.Idx → α) (i : S1024x2048.Idx) (a b : ℕ) (v : α) (h0 : (i 0 : ℕ) = a) (h1 : (i 1 : ℕ) = b)
    (h : ∀ w : S1024x2048.Idx, (w 0 : ℕ) = a → (w 1 : ℕ) = b → f w = v) : f i = v :=
  h i h0 h1

/-- The gated product of the normalized rows a tile of 256 rows is read from. -/
theorem tile (n : FVec Ideal S256x2048 .bf16) (N : FVec Ideal S1024x2048 .bf16) (x2 x3 : FVec Ideal S2048x512 .bf16)
    (x4 : FVec Ideal S512x2048 .bf16) (x : S256x2048.Idx) (y : S1024x2048.Idx) (h1 : (y 1 : ℕ) = x 1)
    (hn : ∀ k, n (ix2 (x 0) k) = N (ix2 (y 0) k)) :
    k0_pay17 n x2 x3 x4 x = SW N x2 x3 x4 y := by
  have e : x 1 = y 1 := Fin.ext h1.symm
  pointwise [k0_pay17, SW, act, FfnSpec.sig, dot, Ideal.logistic, hn, e]

set_option maxHeartbeats 4000000 in
theorem out_A (c : Dev nD) (t : Fin cfg0.N) (h0 : t.val % 11 = 0) :
    (outsAt0 m c t.val t.isLt).1 = SW (NB (iblk m c 0 t) (iblk m c 1 t)) (iblk m c 2 t) (iblk m c 3 t) (iblk m c 4 t) := by
  rw [outsAt0_A m c t h0 (by omega) (by omega)]
  funext y
  frame_out
  canon_tiles x h
  all_goals
    refine tile _ _ _ _ _ x y h1 fun k => ?_
    rw [View.readCov_eq_canon']
    have hx : (x 0 : ℕ) < 256 := (x 0).isLt
    have hk : (k : ℕ) < 2048 := k.isLt
    refine at_index _ _ (y 0) k _ ?_ ?_ fun w hw0 hw1 => ?_
    · exact (Rect.idx_unit_val _ _ _ _ _).trans (by rw [h0]; first | rfl | exact Nat.zero_add _)
    · exact (Rect.idx_unit_val _ _ _ _ _).trans (Nat.zero_add _)
    canon_tiles z hz using (by
      simp only [List.mem_cons, exists_eq_or_imp, Rect.mem_set_unit, Fin.forall_fin_two]
      simp only [Matrix.cons_val_zero, Matrix.cons_val_one, Nat.zero_add, Nat.zero_le, true_and, hw1, hk, and_true]
      clear hk
      simp only [List.not_mem_nil, false_and, exists_false, or_false]
      omega)
    all_goals
      open_payloads
      pointwise [norm_at]
      blk_point []

theorem out_B (c : Dev nD) (t : Fin cfg0.N) (h1 : 1 ≤ t.val % 11 ∧ t.val % 11 ≤ 9) (y) :
    (outsAt0 m c t.val t.isLt).1 y = (outsAt0 m c (t.val - 1) (by omega)).1 y + SW (outsAt0 m c (t.val - 1) (by omega)).2 (iblk m c 2 t) (iblk m c 3 t) (iblk m c 4 t) y := by
  rw [outsAt0_B m c t (by omega) h1 (by omega)]
  frame_out
  rw [read_unread_whole]
  pointwise [k0_pay2, SW, act, FfnSpec.sig, dot, Ideal.logistic]

/-- The residual row plus the scaled, normalized sum of the finished chunks. -/
def FIN (x0 acc : FVec Ideal S1024x2048 .f32) (n : FVec Ideal S1024x2048 .bf16) (x2 x3 : FVec Ideal S2048x512 .bf16)
    (x4 : FVec Ideal S512x2048 .bf16) (x5 : FVec Ideal S1x2048 .f32) : FVec Ideal S1024x2048 .f32 := fun y =>
  x0 (ix2 (y 0) (y 1)) + FfnSpec.norm (fun l => acc (ix2 (y 0) l) + SW n x2 x3 x4 (ix2 (y 0) l)) (fun l => Ideal.ofBits .f32 0x3F000000#32 * x5 (ix2 0 l)) (y 1)

theorem fin_at (x0 acc : FVec Ideal S1024x2048 .f32) (n : FVec Ideal S1024x2048 .bf16) (x2 x3 : FVec Ideal S2048x512 .bf16)
    (x4 : FVec Ideal S512x2048 .bf16) (x5 : FVec Ideal S1x2048 .f32) (y : S1024x2048.Idx) :
    FIN x0 acc n x2 x3 x4 x5 y = x0 (ix2 (y 0) (y 1)) + (acc (ix2 (y 0) (y 1)) + SW n x2 x3 x4 (ix2 (y 0) (y 1)))
      * Ideal.rsqrt (Ideal.div (∑ l, (acc (ix2 (y 0) l) + SW n x2 x3 x4 (ix2 (y 0) l)) * (acc (ix2 (y 0) l) + SW n x2 x3 x4 (ix2 (y 0) l)))
          (Ideal.ofBits .f32 0x45000000#32) + Ideal.ofBits .f32 0x358637BD#32)
      * (Ideal.ofBits .f32 0x3F000000#32 * x5 (ix2 0 (y 1)))  := rfl

set_option maxHeartbeats 4000000 in
theorem out_C (c : Dev nD) (t : Fin cfg0.N) (h1 : t.val % 11 = 10) :
    (outsAt0 m c t.val t.isLt).1 = FIN (iblk m c 0 t) (outsAt0 m c (t.val - 1) (by omega)).1 (outsAt0 m c (t.val - 1) (by omega)).2
      (iblk m c 2 t) (iblk m c 3 t) (iblk m c 4 t) (iblk m c 5 t) := by
  rw [outsAt0_C m c t (by omega) (by omega) h1]
  funext y
  frame_out
  rw [read_unread_whole]
  canon_tiles x h
  all_goals
    open_payloads
    pointwise [fin_at, SW, act, FfnSpec.sig, dot, Ideal.logistic]
    blk_point []

end Cert.FfnIdeal.Pay
end
-- ==== Proof.FfnRef.lean ====
/- The reference of the feed-forward half-step, read at an index. -/
module

public import proofs.«01_k».proof.Proof.FfnSpec
public import proofs.«01_k».proof.Proof.Gen.FfnRefIdeal.Read

@[expose] public section

set_option maxRecDepth 16384

noncomputable section

namespace Cert.FfnRefIdeal.At

open Cert.FfnRefIdeal Cert.FfnRefIdeal.Gen Cert.FfnRefIdeal.Read Cert.FfnSpec
open Idealize.ShloMosaic Idealize.ShloMosaic.TcCoe Idealize.SL.Sem

variable (x0 : FVec Ideal S4x4096x2048 .f32) (x1 : FVec Ideal S2048 .f32) (x2 : FVec Ideal S2048x11264 .f32)
  (x3 : FVec Ideal S5632x2048 .f32) (x4 : FVec Ideal S2048 .f32)

/-- Row `r` of the flattened tokens. -/
def row (r : Fin 16384) (k : Fin 2048) : EReal := val_main_v0 (F := Ideal) x0 (ix2 r k)

theorem v13_at (r : Fin 16384) (k : Fin 2048) :
    val_main_v13 (F := Ideal) x0 x1 (ix2 r k) = norm (row x0 r) (fun k => x1 (ix1 k)) k := by
  pointwise [val_main_v13, val_main_v12, val_main_v11, val_main_v10, val_main_v9, val_main_v8, val_main_v7, val_main_v6, val_main_v5, val_main_v4, val_main_v3, val_main_v2, val_main_v1, val_main_cst, val_main_cst_0, val_main_cst_1]
  rfl

/-- The weight column `c` of the joined gate and up matrix. -/
def wcol (c : Fin 11264) (k : Fin 2048) : EReal := x2 (ix2 k c)

theorem v14_at (r : Fin 16384) (c : Fin 11264) :
    val_main_v14 (F := Ideal) x0 x1 x2 (ix2 r c) = dot (fun k => norm (row x0 r) (fun k => x1 (ix1 k)) k) (wcol x2 c) := by
  have e := fun k => v13_at x0 x1 r k
  pointwise [val_main_v14]
  simp only [e]
  rfl

/-- The activation at row `r` and hidden column `l`. -/
def hid (r : Fin 16384) (l : Fin 5632) : EReal :=
  act (fun k => norm (row x0 r) (fun k => x1 (ix1 k)) k) (wcol x2 ⟨l.val, by omega⟩) (wcol x2 ⟨5632 + l.val, by omega⟩)

theorem v18_at (r : Fin 16384) (l : Fin 5632) : val_main_v18 (F := Ideal) x0 x1 x2 (ix2 r l) = hid x0 x1 x2 r l := by
  have e := fun c => v14_at x0 x1 x2 r c
  pointwise [val_main_v18, val_main_v17, val_main_v16, val_main_v15, val_main_call0_v5, val_main_call0_v4, val_main_call0_v3,
    val_main_call0_v2, val_main_call0_v1, val_main_call0_v0, val_main_call0_cst, val_main_call0_cst_0]
  simp only [e]
  rfl

/-- The feed-forward product at row `r` and column `c`, before the second norm. -/
def ffn (r : Fin 16384) (c : Fin 2048) : EReal := ∑ l : Fin 5632, hid x0 x1 x2 r l * x3 (ix2 l c)

theorem v19_at (r : Fin 16384) (c : Fin 2048) : val_main_v19 (F := Ideal) x0 x1 x2 x3 (ix2 r c) = ffn x0 x1 x2 x3 r c := by
  have e := fun l => v18_at x0 x1 x2 r l
  pointwise [val_main_v19]
  simp only [e]
  rfl

theorem v35_at (r : Fin 16384) (c : Fin 2048) :
    val_main_v35 (F := Ideal) x0 x1 x2 x3 x4 (ix2 r c) = row x0 r c
      + Ideal.ofBits .f32 0x3F000000#32 * norm (ffn x0 x1 x2 x3 r) (fun k => x4 (ix1 k)) c := by
  have e := fun c => v19_at x0 x1 x2 x3 r c
  pointwise [val_main_v35, val_main_v34, val_main_v33, val_main_v32, val_main_v31, val_main_v30, val_main_v29, val_main_v28, val_main_v27, val_main_v26, val_main_v25, val_main_v24, val_main_v23, val_main_v22, val_main_v21, val_main_v20, val_main_cst_2, val_main_cst_3, val_main_cst_4, val_main_cst_5]
  simp only [e]
  rfl

end Cert.FfnRefIdeal.At

end
-- ==== Proof.FfnVal.lean ====
/- The feed-forward kernel's output is its reference's: the chunks summed over a block's eleven points. -/
module

public import proofs.«01_k».proof.Proof.FfnPay
public import proofs.«01_k».proof.Proof.FfnRef
public import Idealize.ShloMosaic.Lib.Claim

@[expose] public section

set_option maxRecDepth 16384

noncomputable section

namespace Cert.FfnIdeal.Val

open Cert.FfnIdeal Cert.FfnIdeal.Gen Cert.FfnIdeal.Value Cert.FfnIdeal.Pay
open Idealize.ShloMosaic Idealize.ShloMosaic.TcCoe Idealize.SL.Sem

variable (m : (ℓ : Loc nD τ sig) → Buf (Elt Ideal) ℓ) (c : Dev nD)

/-- The arguments as launched. -/
abbrev a0 : FVec Ideal S4x4096x2048 .f32 := m ((c : Thread nD τ).loc main_arg0)
abbrev a1 : FVec Ideal S2048 .f32 := m ((c : Thread nD τ).loc main_arg1)
abbrev a2 : FVec Ideal S2048x11264 .f32 := m ((c : Thread nD τ).loc main_arg2)
abbrev a3 : FVec Ideal S5632x2048 .f32 := m ((c : Thread nD τ).loc main_arg3)
abbrev a4 : FVec Ideal S2048 .f32 := m ((c : Thread nD τ).loc main_arg4)

theorem idx : ∀ t : Fin cfg0.N, (win0_0.index t (0 : Fin 2) = t.val / 11 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = 11 + t.val % 11)
    ∧ (win0_4.index t (0 : Fin 2) = t.val % 11 ∧ win0_4.index t (1 : Fin 2) = 0)
    ∧ (win0_5.index t (0 : Fin 2) = 0 ∧ win0_5.index t (1 : Fin 2) = 0) :=
  (by decide +kernel : ∀ t : Fin grid0.N, _)

theorem blk0 (t : Fin cfg0.N) (a : Fin 1024) (k : Fin 2048) (h : 1024 * (t.val / 11) + a.val < 16384) :
    iblk m c 0 t (ix2 a k) = Cert.FfnRefIdeal.At.row (a0 m c) ⟨1024 * (t.val / 11) + a.val, h⟩ k := by
  pointwise [Cert.FfnRefIdeal.At.row, Cert.FfnRefIdeal.Read.val_main_v0]
  blk_point [iblk, V, idx t]

theorem blk1 (t : Fin cfg0.N) (k : Fin 2048) : iblk m c 1 t (ix2 0 k) = a1 m c (ix1 k) := by
  blk_point [iblk, V, idx t]

theorem blk2 (t : Fin cfg0.N) (k : Fin 2048) (l : Fin 512) (h : (t.val % 11) * 512 + l.val < 11264) :
    iblk m c 2 t (ix2 k l) = a2 m c (ix2 k ⟨(t.val % 11) * 512 + l.val, h⟩) := by
  blk_point [iblk, V, idx t]

theorem blk3 (t : Fin cfg0.N) (k : Fin 2048) (l : Fin 512) (h : 5632 + ((t.val % 11) * 512 + l.val) < 11264) :
    iblk m c 3 t (ix2 k l) = a2 m c (ix2 k ⟨5632 + ((t.val % 11) * 512 + l.val), h⟩) := by
  blk_point [iblk, V, idx t]

theorem blk4 (t : Fin cfg0.N) (l : Fin 512) (k : Fin 2048) (h : (t.val % 11) * 512 + l.val < 5632) :
    iblk m c 4 t (ix2 l k) = a3 m c (ix2 ⟨(t.val % 11) * 512 + l.val, h⟩ k) := by
  blk_point [iblk, V, idx t]

theorem blk5 (t : Fin cfg0.N) (k : Fin 2048) : iblk m c 5 t (ix2 0 k) = a4 m c (ix1 k) := by
  blk_point [iblk, V, idx t]

open Cert.FfnRefIdeal.At (row hid ffn wcol)

theorem act_congr {n n' g g' u u' : Fin 2048 → EReal} (hn : n = n') (hg : g = g') (hu : u = u') :
    FfnSpec.act n g u = FfnSpec.act n' g' u' := by
  subst hn hg hu; rfl

variable (x0 : FVec Ideal S4x4096x2048 .f32) (x1 : FVec Ideal S2048 .f32) (x2 : FVec Ideal S2048x11264 .f32)
  (x3 : FVec Ideal S5632x2048 .f32)

/-- The normalized row `r` of the tokens. -/
def nrow (r : Fin 16384) (k : Fin 2048) : EReal := FfnSpec.norm (row x0 r) (fun k => x1 (ix1 k)) k

/-- Chunk `j` of the gated product at row `r` and column `b`. -/
def ch (r : Fin 16384) (b : Fin 2048) (j : ℕ) : EReal :=
  ∑ l : Fin 512, if h : j * 512 + l.val < 5632 then
    hid x0 x1 x2 r ⟨j * 512 + l.val, h⟩ * x3 (ix2 ⟨j * 512 + l.val, h⟩ b) else 0

theorem ffn_eq (r : Fin 16384) (b : Fin 2048) : ∑ j ∈ Finset.range 11, ch x0 x1 x2 x3 r b j = ffn x0 x1 x2 x3 r b := by
  rw [ffn, Fin.sum_univ_tiles 11 512 rfl, ← Fin.sum_univ_eq_sum_range (fun j => ch x0 x1 x2 x3 r b j)]
  refine Finset.sum_congr rfl fun j _ => Finset.sum_congr rfl fun l _ => ?_
  rw [dif_pos]

theorem rlt (t : Fin cfg0.N) (a : Fin 1024) : 1024 * (t.val / 11) + a.val < 16384 := by
  have h := lt_of_lt_of_eq t.isLt (show cfg0.N = 176 from N_0); omega

theorem nb_at (t : Fin cfg0.N) (a : Fin 1024) (k : Fin 2048) :
    NB (iblk m c 0 t) (iblk m c 1 t) (ix2 a k) = nrow (a0 m c) (a1 m c) ⟨1024 * (t.val / 11) + a.val, rlt t a⟩ k := by
  have e0 := funext fun k => blk0 m c t a k (rlt t a)
  have e1 := funext fun k => blk1 m c t k
  exact congrFun (congrArg₂ FfnSpec.norm e0 e1) k

theorem sw_at (t : Fin cfg0.N) (n : FVec Ideal S1024x2048 .bf16)
    (hn : ∀ a k, n (ix2 a k) = nrow (a0 m c) (a1 m c) ⟨1024 * (t.val / 11) + a.val, rlt t a⟩ k) (a : Fin 1024) (b : Fin 2048) :
    SW n (iblk m c 2 t) (iblk m c 3 t) (iblk m c 4 t) (ix2 a b) = ch (a0 m c) (a1 m c) (a2 m c) (a3 m c) ⟨1024 * (t.val / 11) + a.val, rlt t a⟩ b (t.val % 11) := by
  refine Finset.sum_congr rfl fun l _ => ?_
  have hl := l.isLt
  have hj : t.val % 11 < 11 := Nat.mod_lt _ (by decide)
  have h : t.val % 11 * 512 + l.val < 5632 := by omega
  rw [dif_pos h]
  exact congrArg₂ (· * ·) (act_congr (funext fun k => hn a k) (funext fun k => blk2 m c t k l (by omega))
    (funext fun k => blk3 m c t k l (by omega))) (blk4 m c t l b h)

/-- What every point leaves: the block's normalized rows in the scratch, and in the output the chunks so far. -/
theorem inv (n : ℕ) : ∀ hn : n < cfg0.N,
    (∀ a k, (outsAt0 m c n hn).2 (ix2 a k) = nrow (a0 m c) (a1 m c) ⟨1024 * (n / 11) + a.val, rlt ⟨n, hn⟩ a⟩ k)
    ∧ (n % 11 ≤ 9 → ∀ a b, (outsAt0 m c n hn).1 (ix2 a b)
        = ∑ j ∈ Finset.range (n % 11 + 1), ch (a0 m c) (a1 m c) (a2 m c) (a3 m c) ⟨1024 * (n / 11) + a.val, rlt ⟨n, hn⟩ a⟩ b j) := by
  refine FfnSpec.chunks (fun n hn a k => (outsAt0 m c n hn).2 (ix2 a k)) (fun n hn a b => (outsAt0 m c n hn).1 (ix2 a b))
    (fun n hn a => ⟨1024 * (n / 11) + a.val, rlt ⟨n, hn⟩ a⟩) (nrow (a0 m c) (a1 m c)) (ch (a0 m c) (a1 m c) (a2 m c) (a3 m c))
    (fun n hn h => ?_) (fun n hn h a k => ?_) (fun n hn h a b => ?_) (fun n hn h => ?_) (fun n hn h i a b => ?_) n
  · funext a
    refine Fin.ext ?_
    show 1024 * ((n + 1) / 11) + a.val = 1024 * (n / 11) + a.val
    omega
  · exact (congrFun (sout_A m c ⟨n, hn⟩ h) _).trans (nb_at m c ⟨n, hn⟩ a k)
  · refine (congrFun (out_A m c ⟨n, hn⟩ h) _).trans ((sw_at m c ⟨n, hn⟩ _ (nb_at m c ⟨n, hn⟩) a b).trans ?_)
    show ch (a0 m c) (a1 m c) (a2 m c) (a3 m c) _ b (n % 11) = _
    rw [h]
  · funext a k
    by_cases h1 : (n + 1) % 11 = 10
    · rw [outsAt0_C m c ⟨n + 1, hn⟩ h (fun h => by have := h.2; dsimp only at this; omega) h1]; rfl
    · rw [outsAt0_B m c ⟨n + 1, hn⟩ h ⟨by dsimp only; omega, by dsimp only; omega⟩ h1]; rfl
  · refine (out_B m c ⟨n + 1, hn⟩ h (ix2 a b)).trans ?_
    exact congrArg₂ (fun x y : EReal => x + y) rfl (sw_at m c ⟨n + 1, hn⟩ _ i a b)

/-- What the last point of a block leaves in the output. -/
theorem last (t : Fin cfg0.N) (h : t.val % 11 = 10) (a : Fin 1024) (b : Fin 2048) :
    (outsAt0 m c t.val t.isLt).1 (ix2 a b) = Cert.FfnRefIdeal.Read.val_main_v35 (F := Ideal) (a0 m c) (a1 m c) (a2 m c) (a3 m c) (a4 m c)
      (ix2 ⟨1024 * (t.val / 11) + a.val, rlt t a⟩ b) := by
  obtain ⟨i1, i2⟩ := inv m c (t.val - 1) (by omega)
  have hd : (t.val - 1) / 11 = t.val / 11 := by omega
  have hm : (t.val - 1) % 11 = 9 := by omega
  refine (congrFun (out_C m c t h) (ix2 a b)).trans ?_
  rw [Cert.FfnRefIdeal.At.v35_at]
  refine congrArg₂ (· + ·) (blk0 m c t a b (rlt t a)) ?_
  have hs : (fun l => (outsAt0 m c (t.val - 1) (by omega)).1 (ix2 a l)
      + SW (outsAt0 m c (t.val - 1) (by omega)).2 (iblk m c 2 t) (iblk m c 3 t) (iblk m c 4 t) (ix2 a l))
      = ffn (a0 m c) (a1 m c) (a2 m c) (a3 m c) ⟨1024 * (t.val / 11) + a.val, rlt t a⟩ := by
    funext l
    rw [← ffn_eq, Finset.sum_range_succ]
    refine congrArg₂ (· + ·) ?_ ?_
    · refine (i2 (by omega) a l).trans ?_
      simp only [hd, hm]
    · refine (sw_at m c t _ (fun a k => (i1 a k).trans (by simp only [hd])) a l).trans ?_
      rw [h]
  have hg : (fun l => Ideal.ofBits .f32 0x3F000000#32 * (show EReal from iblk m c 5 t (ix2 0 l)))
      = fun l => Ideal.ofBits .f32 0x3F000000#32 * a4 m c (ix1 l) := by
    funext l; exact congrArg _ (blk5 m c t l)
  refine (congrFun (congrArg₂ FfnSpec.norm hs hg) b).trans ?_
  exact mul_left_comm _ _ _

/-- The output array after the run is the reference's. -/
theorem final : G6 m c = Cert.FfnRefIdeal.Read.val_main_v35 (F := Ideal) (a0 m c) (a1 m c) (a2 m c) (a3 m c) (a4 m c) := by
  funext i
  have h0 : (i 0).val < 16384 := (i 0).isLt
  have h1 : (i 1).val < 2048 := (i 1).isLt
  have hN : cfg0.N = 176 := N_0
  have hp : pt6Of i < cfg0.N := by rw [hN]; show 11 * (1 * ((i 0).val / 1024 - 0) + 1 * ((i 1).val / 2048 - 0)) + 10 < 176; omega
  have hq : pt6Of i = 11 * ((i 0).val / 1024) + 10 := by
    show 11 * (1 * ((i 0).val / 1024 - 0) + 1 * ((i 1).val / 2048 - 0)) + 10 = _; omega
  unfold G6
  rw [dif_pos hp, ← outsAt0_sweep m c (pt6Of i) hp]
  have hl : loc6Of i = ix2 ⟨(i 0).val % 1024, Nat.mod_lt _ (by decide)⟩ ⟨(i 1).val % 2048, Nat.mod_lt _ (by decide)⟩ := by
    funext a; match a with | 0 => rfl | 1 => rfl
  rw [hl]
  refine (last m c ⟨pt6Of i, hp⟩ (by show pt6Of i % 11 = 10; omega) _ _).trans ?_
  refine congrArg _ ?_
  funext a
  apply Fin.ext
  match a with
  | 0 => show 1024 * (pt6Of i / 11) + (i 0).val % 1024 = (i 0).val; omega
  | 1 => show (i 1).val % 2048 = (i 1).val; omega

end Cert.FfnIdeal.Val
end
-- ==== Proof.AttnTile.lean ====
/- A head's tile: its softmax in powers of two over its keys, as a function of the blocks. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Pay

open Cert.KernelIdeal Cert.KernelIdeal.Gen Cert.KernelIdeal.Value
open Idealize.ShloMosaic Idealize.ShloMosaic.TcCoe Idealize.SL.Sem

/-- log2(e), by its name. -/
abbrev lg : EReal := (((Real.log 2)⁻¹ : ℝ) : EReal)

/-- One entry of one head's tile: the row of scores `L` against a sink `S`, the softmax weights over the keys, and their product with a column `V`. -/
def head (L V : Fin 384 → EReal) (S : EReal) : EReal :=
  Ideal.div (∑ s, Ideal.exp2 (L s - max (Finset.univ.fold max ⊥ L) S) * V s)
    ((∑ s, Ideal.exp2 (L s - max (Finset.univ.fold max ⊥ L) S)) + Ideal.exp2 (S - max (Finset.univ.fold max ⊥ L) S))

variable (k v : Vec Ideal S384x128 .bf16) (q0 q1 q2 q3 : Vec Ideal S1x128x128 .bf16) (b0 b1 b2 b3 : Vec Ideal S1x1x128x384 .f32)
  (s0 s1 s2 s3 : Elt Ideal .f32)

/-- The entry `x` of one head's tile from its queries, keys, values, biases and sink. -/
def tile (k v : FVec Ideal S384x128 .bf16) (q : FVec Ideal S1x128x128 .bf16) (b : FVec Ideal S1x1x128x384 .f32) (s : EReal) (x : S128x128.Idx) : EReal :=
  head (fun j => (∑ d, q (ix3 0 (x 0) d) * k (ix2 j d)) + b (ix4 0 0 (x 0) j)) (fun j => v (ix2 j (x 1))) (s * lg)

theorem log2e_val : (Named.named (F := Ideal) (φ := .f32) κ "log2e" 1069066811#32 : EReal) = lg :=
  IdealRules.named_const.ideal_named_scalar _ _ _ _ rfl

theorem neg_inf : (Ideal.ofBits .f32 4286578688#32 : EReal) = ⊥ := by simp [Ideal.ofBits, Ideal.ieee]

set_option maxHeartbeats 4000000 in
theorem tile0 (x : S128x128.Idx) :
    k0_pay76 v (k0_pay57 (k0_pay51 k q0 q1 q2 q3) b0 s0) (k0_pay58 (k0_pay51 k q0 q1 q2 q3) b0 s0) (k0_pay64 (k0_pay59 (k0_pay51 k q0 q1 q2 q3) b1) s1) (k0_pay70 (k0_pay51 k q0 q1 q2 q3) b2 s2) (k0_pay71 (k0_pay51 k q0 q1 q2 q3) b3) (k0_pay72 s3) x = tile k v q0 b0 s0 x := by
  idx_vars x
  open_payloads
  pointwise [tile, head]
  have p0 := x0.isLt
  have e1 : 384 + x0.val - 128 = 256 + x0.val := by omega
  have e2 : 256 + x0.val - 128 = 128 + x0.val := by omega
  have e3 : 128 + x0.val - 128 = x0.val := by omega
  have n1 : ¬ 384 + x0.val < 128 := by omega
  have n2 : ¬ 256 + x0.val < 128 := by omega
  have n3 : ¬ 128 + x0.val < 128 := by omega
  simp only [log2e_val, neg_inf, e1, e2, e3, n1, n2, n3, p0, dite_true, dite_false, Fin.eta]
  rfl

set_option maxHeartbeats 4000000 in
theorem tile1 (x : S128x128.Idx) :
    k0_pay77 v (k0_pay58 (k0_pay51 k q0 q1 q2 q3) b0 s0) (k0_pay63 (k0_pay59 (k0_pay51 k q0 q1 q2 q3) b1) s1) (k0_pay64 (k0_pay59 (k0_pay51 k q0 q1 q2 q3) b1) s1) (k0_pay70 (k0_pay51 k q0 q1 q2 q3) b2 s2) (k0_pay71 (k0_pay51 k q0 q1 q2 q3) b3) (k0_pay72 s3) x = tile k v q1 b1 s1 x := by
  idx_vars x
  open_payloads
  pointwise [tile, head]
  have p0 := x0.isLt
  have e1 : 384 + x0.val - 128 = 256 + x0.val := by omega
  have e2 : 256 + x0.val - 128 = 128 + x0.val := by omega
  have e3 : 128 + x0.val - 128 = x0.val := by omega
  have n1 : ¬ 384 + x0.val < 128 := by omega
  have n2 : ¬ 256 + x0.val < 128 := by omega
  have n3 : ¬ 128 + x0.val < 128 := by omega
  simp only [log2e_val, neg_inf, e1, e2, e3, n1, n2, n3, p0, dite_true, dite_false, Fin.eta]
  rfl

set_option maxHeartbeats 4000000 in
theorem tile2 (x : S128x128.Idx) :
    k0_pay78 v (k0_pay58 (k0_pay51 k q0 q1 q2 q3) b0 s0) (k0_pay64 (k0_pay59 (k0_pay51 k q0 q1 q2 q3) b1) s1) (k0_pay69 (k0_pay51 k q0 q1 q2 q3) b2 s2) (k0_pay70 (k0_pay51 k q0 q1 q2 q3) b2 s2) (k0_pay71 (k0_pay51 k q0 q1 q2 q3) b3) (k0_pay72 s3) x = tile k v q2 b2 s2 x := by
  idx_vars x
  open_payloads
  pointwise [tile, head]
  have p0 := x0.isLt
  have e1 : 384 + x0.val - 128 = 256 + x0.val := by omega
  have e2 : 256 + x0.val - 128 = 128 + x0.val := by omega
  have e3 : 128 + x0.val - 128 = x0.val := by omega
  have n1 : ¬ 384 + x0.val < 128 := by omega
  have n2 : ¬ 256 + x0.val < 128 := by omega
  have n3 : ¬ 128 + x0.val < 128 := by omega
  simp only [log2e_val, neg_inf, e1, e2, e3, n1, n2, n3, p0, dite_true, dite_false, Fin.eta]
  rfl

set_option maxHeartbeats 4000000 in
theorem tile3 (x : S128x128.Idx) :
    k0_pay79 v (k0_pay58 (k0_pay51 k q0 q1 q2 q3) b0 s0) (k0_pay64 (k0_pay59 (k0_pay51 k q0 q1 q2 q3) b1) s1) (k0_pay70 (k0_pay51 k q0 q1 q2 q3) b2 s2) (k0_pay71 (k0_pay51 k q0 q1 q2 q3) b3) (k0_pay72 s3) x = tile k v q3 b3 s3 x := by
  idx_vars x
  open_payloads
  pointwise [tile, head]
  have p0 := x0.isLt
  have e1 : 384 + x0.val - 128 = 256 + x0.val := by omega
  have e2 : 256 + x0.val - 128 = 128 + x0.val := by omega
  have e3 : 128 + x0.val - 128 = x0.val := by omega
  have n1 : ¬ 384 + x0.val < 128 := by omega
  have n2 : ¬ 256 + x0.val < 128 := by omega
  have n3 : ¬ 128 + x0.val < 128 := by omega
  simp only [log2e_val, neg_inf, e1, e2, e3, n1, n2, n3, p0, dite_true, dite_false, Fin.eta]
  rfl

end Cert.KernelIdeal.Pay
end
-- ==== Proof.AttnPay.lean ====
/- What a later point of the windowed attention leaves in its output block, over its input blocks. -/
module

public import proofs.«01_k».proof.Proof.AttnTile
public import Idealize.ShloMosaic.Lib.Pipeline.ValueKit
public import Idealize.ShloMosaic.Lib.Pipeline.ReadBack

@[expose] public section

set_option maxRecDepth 16384

noncomputable section

namespace Cert.KernelIdeal.Pay

open Cert.KernelIdeal Cert.KernelIdeal.Gen Cert.KernelIdeal.Value
open Idealize.ShloMosaic Idealize.ShloMosaic.TcCoe Idealize.SL.Sem

variable (m : (ℓ : Loc nD τ sig) → Buf (Elt Ideal) ℓ)

/-- The gate of a block's rows: the logistic of their product with the gate's weights plus the bias. -/
def gate (u : FVec Ideal S1x512x2048 .bf16) (wg : FVec Ideal S2048x2048 .bf16) (bg : FVec Ideal S1x2048 .f32) (y : S1x512x2048.Idx) : EReal :=
  Ideal.logistic ((∑ k, u (ix3 0 (y 1) k) * wg (ix2 k (y 2))) + bg (ix2 0 (y 2)))

/-- The gated product of a block's attended rows `a` with the output's weights. -/
def mixed (u : FVec Ideal S1x512x2048 .bf16) (wg : FVec Ideal S2048x2048 .bf16) (bg : FVec Ideal S1x2048 .f32) (a : FVec Ideal S512x1024 .bf16)
    (w : FVec Ideal S1024x2048 .bf16) (y : S1x512x2048.Idx) : EReal :=
  gate u wg bg y * ∑ k, a (ix2 (y 1) k) * w (ix2 k (y 2))

theorem mix (a : FVec Ideal S512x1024 .bf16) (g : FVec Ideal S1x512x512 .f32) (w : FVec Ideal S1024x512 .bf16) (x : S1x512x512.Idx) :
    k0_pay305 a g w x = g (ix3 0 (x 1) (x 2)) * ∑ k, a (ix2 (x 1) k) * w (ix2 k (x 2)) := by
  pointwise [k0_pay305]
  rw [show g x = g (ix3 0 (x 1) (x 2)) from congrArg g (by idx_vars x; idx_ext)]

theorem glu (u : FVec Ideal S1x512x2048 .bf16) (wg : FVec Ideal S2048x256 .bf16) (bg : FVec Ideal S1x256 .f32) (WG : FVec Ideal S2048x2048 .bf16)
    (BG : FVec Ideal S1x2048 .f32) (x : S1x512x256.Idx) (y : S1x512x2048.Idx) (h1 : (y 1 : ℕ) = x 1)
    (hw : ∀ k, wg (ix2 k (x 2)) = WG (ix2 k (y 2))) (hb : bg (ix2 0 (x 2)) = BG (ix2 0 (y 2))) :
    k0_pay52 (F := Ideal) u wg bg x = gate u WG BG y := by
  have e : x 1 = y 1 := Fin.ext h1.symm
  pointwise [k0_pay52, gate, Ideal.logistic, hw, hb, e]

theorem at3 {α : Type} (f g : S1x512x2048.Idx → α) (i i' : S1x512x2048.Idx) (h1 : (i 1 : ℕ) = i' 1) (h2 : (i 2 : ℕ) = i' 2)
    (h : ∀ w : S1x512x2048.Idx, (w 1 : ℕ) = i 1 → (w 2 : ℕ) = i 2 → f w = g w) : f i = g i' := by
  have e : i = i' := by
    funext a
    match a with
    | 0 => exact Fin.ext ((Nat.lt_one_iff.1 (i 0).isLt).trans (Nat.lt_one_iff.1 (i' 0).isLt).symm)
    | 1 => exact Fin.ext h1
    | 2 => exact Fin.ext h2
  exact e ▸ h i rfl rfl

theorem band (y : S1x512x2048.Idx) (j : ℕ) (h : j ≤ y 2) (h' : (y 2 : ℕ) < j + 512) (a : Fin 3) :
    ![0, 0, j] a ≤ y a ∧ (y a : ℕ) < ![0, 0, j] a + ![1, 512, 512] a := by
  have h0 : (y 0 : ℕ) < 1 := (y 0).isLt
  have h1 : (y 1 : ℕ) < 512 := (y 1).isLt
  match a with
  | 0 => exact ⟨Nat.zero_le _, by simpa using h0⟩
  | 1 => exact ⟨Nat.zero_le _, by simpa using h1⟩
  | 2 => exact ⟨h, h'⟩

theorem low (y : S1x512x2048.Idx) (j v : ℕ) (h : (y 2 : ℕ) = j + v) (hv : v < 256) (a : Fin 3) :
    ![0, 0, j] a ≤ y a ∧ (y a : ℕ) < ![0, 0, j] a + ![1, 512, 256] a := by
  have h0 : (y 0 : ℕ) < 1 := (y 0).isLt
  have h1 : (y 1 : ℕ) < 512 := (y 1).isLt
  match a with
  | 0 => exact ⟨Nat.zero_le _, by simpa using h0⟩
  | 1 => exact ⟨Nat.zero_le _, by simpa using h1⟩
  | 2 => exact ⟨show j ≤ (y 2 : ℕ) by omega, show (y 2 : ℕ) < j + 256 by omega⟩

theorem high (y : S1x512x2048.Idx) (j j' v : ℕ) (h : (y 2 : ℕ) = j + v) (hv : 256 ≤ v) (hv' : v < 512) (hj : j' = j + 256) (a : Fin 3) :
    ![0, 0, j'] a ≤ y a ∧ (y a : ℕ) < ![0, 0, j'] a + ![1, 512, 256] a :=
  low y j' (v - 256) (by omega) (by omega) a

/-- Three row blocks one above the other. -/
def stack (p : FVec Ideal S1x128x256 .bf16) (q : FVec Ideal S1x512x256 .bf16) (n : FVec Ideal S1x128x256 .bf16) (w : S768x256.Idx) : EReal :=
  if h : (w 0 : ℕ) < 128 then p (ix3 0 ⟨w 0, h⟩ (w 1))
  else if h' : (w 0 : ℕ) < 640 then q (ix3 0 ⟨(w 0 : ℕ) - 128, by omega⟩ (w 1))
  else n (ix3 0 ⟨(w 0 : ℕ) - 640, by have : (w 0 : ℕ) < 768 := (w 0).isLt; omega⟩ (w 1))

theorem rows (w : S768x256.Idx) (j n : ℕ) (h : j ≤ w 0) (h' : (w 0 : ℕ) < j + n) (a : Fin 2) :
    ![j, 0] a ≤ w a ∧ (w a : ℕ) < ![j, 0] a + ![n, 256] a := by
  have h1 : (w 1 : ℕ) < 256 := (w 1).isLt
  match a with
  | 0 => exact ⟨h, h'⟩
  | 1 => exact ⟨Nat.zero_le _, by simpa using h1⟩

theorem stack_prev (p : FVec Ideal S1x128x256 .bf16) (q : FVec Ideal S1x512x256 .bf16) (n : FVec Ideal S1x128x256 .bf16) (x : S128x256.Idx) (w : S768x256.Idx)
    (h0 : (w 0 : ℕ) = x 0) (h1 : (w 1 : ℕ) = x 1) : k0_pay44 (F := Ideal) p x = stack p q n w := by
  have hx : (x 0 : ℕ) < 128 := (x 0).isLt
  rw [stack, dif_pos (by omega), show w 1 = x 1 from Fin.ext h1, show (⟨w 0, by omega⟩ : Fin 128) = x 0 from Fin.ext h0]
  pointwise [k0_pay44]

theorem stack_mid (p : FVec Ideal S1x128x256 .bf16) (q : FVec Ideal S1x512x256 .bf16) (n : FVec Ideal S1x128x256 .bf16) (x : S512x256.Idx) (w : S768x256.Idx)
    (h0 : (w 0 : ℕ) = 128 + x 0) (h1 : (w 1 : ℕ) = x 1) : k0_pay45 (F := Ideal) q x = stack p q n w := by
  have hx : (x 0 : ℕ) < 512 := (x 0).isLt
  rw [stack, dif_neg (by omega), dif_pos (by omega), show w 1 = x 1 from Fin.ext h1,
    show (⟨(w 0 : ℕ) - 128, by omega⟩ : Fin 512) = x 0 from Fin.ext (show (w 0 : ℕ) - 128 = x 0 by omega)]
  pointwise [k0_pay45]

theorem stack_next (p : FVec Ideal S1x128x256 .bf16) (q : FVec Ideal S1x512x256 .bf16) (n : FVec Ideal S1x128x256 .bf16) (x : S128x256.Idx) (w : S768x256.Idx)
    (h0 : (w 0 : ℕ) = 640 + x 0) (h1 : (w 1 : ℕ) = x 1) : k0_pay46 (F := Ideal) n x = stack p q n w := by
  have hx : (x 0 : ℕ) < 128 := (x 0).isLt
  rw [stack, dif_neg (by omega), dif_neg (by omega), show w 1 = x 1 from Fin.ext h1,
    show (⟨(w 0 : ℕ) - 640, by omega⟩ : Fin 128) = x 0 from Fin.ext (show (w 0 : ℕ) - 640 = x 0 by omega)]
  pointwise [k0_pay46]

/-- The bias table a block of 128 queries takes: the first block's, the last block's, or that of the others. -/
def variant (n : ℕ) : Fin 3 := if n = 0 then 0 else if n = 31 then 2 else 1

theorem row_lt (w : S512x1024.Idx) (s : Fin 384) : 128 * ((w 0 : ℕ) / 128) + s < 768 := by
  have : (w 0 : ℕ) < 512 := (w 0).isLt
  omega

theorem col_lt (w : S512x1024.Idx) (d : Fin 128) : 128 * ((w 1 : ℕ) / 512) + d < 256 := by
  have : (w 1 : ℕ) < 1024 := (w 1).isLt
  omega

theorem lane_lt (w : S512x1024.Idx) (d : Fin 128) : 128 * ((w 1 : ℕ) / 128) + d < 1024 := by
  have : (w 1 : ℕ) < 1024 := (w 1).isLt
  omega

theorem head_lt (w : S512x1024.Idx) : (w 1 : ℕ) / 128 < 8 := by
  have : (w 1 : ℕ) < 1024 := (w 1).isLt
  omega

/-- The attended block: the entry of head `w 1 / 128` at row `w 0`, from the block's queries, the stacked keys and values, the bias tables and the sinks;
    `o` is the number of the block's first 128 queries in the sequence. -/
def att (o : ℕ) (Q : FVec Ideal S1x512x1024 .bf16) (K V : S768x256.Idx → EReal) (T : FVec Ideal S3x8x128x384 .f32) (sk : FVec Ideal S8 .f32)
    (w : S512x1024.Idx) : EReal :=
  head (fun s => (∑ d : Fin 128, Q (ix3 0 (w 0) ⟨_, lane_lt w d⟩) * K (ix2 ⟨_, row_lt w s⟩ ⟨_, col_lt w d⟩))
      + T (ix4 (variant (o + (w 0 : ℕ) / 128)) ⟨_, head_lt w⟩ ⟨(w 0 : ℕ) % 128, Nat.mod_lt _ (by norm_num)⟩ s))
    (fun s => V (ix2 ⟨_, row_lt w s⟩ ⟨128 * ((w 1 : ℕ) / 512) + (w 1 : ℕ) % 128, col_lt w ⟨_, Nat.mod_lt _ (by norm_num)⟩⟩))
    (sk (ix1 ⟨_, head_lt w⟩) * lg)

/-- A head's tile is the attended block's entries at rows from `r` and columns from `l`. -/
theorem tile_att (o : ℕ) (Q : FVec Ideal S1x512x1024 .bf16) (K V : S768x256.Idx → EReal) (T : FVec Ideal S3x8x128x384 .f32) (sk : FVec Ideal S8 .f32)
    (k v : FVec Ideal S384x128 .bf16) (q : FVec Ideal S1x128x128 .bf16) (b : FVec Ideal S1x1x128x384 .f32) (e : EReal) (x : S128x128.Idx)
    (w : S512x1024.Idx) (r l : ℕ) (h0 : (w 0 : ℕ) = r + x 0) (h1 : (w 1 : ℕ) = l + x 1) (hr : r % 128 = 0) (hl : l % 128 = 0)
    (hq : ∀ (d : Fin 128) (i : S1x512x1024.Idx), (i 1 : ℕ) = r + x 0 → (i 2 : ℕ) = l + d → q (ix3 0 (x 0) d) = Q i)
    (hk : ∀ (s : Fin 384) (d : Fin 128) (i : S768x256.Idx), (i 0 : ℕ) = r + s → (i 1 : ℕ) = 128 * (l / 512) + d → k (ix2 s d) = K i)
    (hv : ∀ (s : Fin 384) (i : S768x256.Idx), (i 0 : ℕ) = r + s → (i 1 : ℕ) = 128 * (l / 512) + x 1 → v (ix2 s (x 1)) = V i)
    (hb : ∀ (s : Fin 384) (i : S3x8x128x384.Idx), i 0 = variant (o + r / 128) → (i 1 : ℕ) = l / 128 → (i 2 : ℕ) = x 0 → (i 3 : ℕ) = s
      → b (ix4 0 0 (x 0) s) = T i)
    (he : ∀ i : S8.Idx, (i 0 : ℕ) = l / 128 → e = sk i) :
    tile k v q b e x = att o Q K V T sk w := by
  have hx0 : (x 0 : ℕ) < 128 := (x 0).isLt
  have hx1 : (x 1 : ℕ) < 128 := (x 1).isLt
  have a0 : (w 0 : ℕ) / 128 = r / 128 := by omega
  have a1 : (w 1 : ℕ) / 128 = l / 128 := by omega
  have a2 : (w 1 : ℕ) / 512 = l / 512 := by omega
  have a3 : 128 * (r / 128) = r := by omega
  have a4 : 128 * (l / 128) = l := by omega
  have eL : (fun j => (∑ d, q (ix3 0 (x 0) d) * k (ix2 j d)) + b (ix4 0 0 (x 0) j)) = fun s =>
      (∑ d : Fin 128, Q (ix3 0 (w 0) ⟨_, lane_lt w d⟩) * K (ix2 ⟨_, row_lt w s⟩ ⟨_, col_lt w d⟩))
      + T (ix4 (variant (o + (w 0 : ℕ) / 128)) ⟨_, head_lt w⟩ ⟨(w 0 : ℕ) % 128, Nat.mod_lt _ (by norm_num)⟩ s) := by
    funext s
    refine congrArg₂ (· + ·) (Finset.sum_congr rfl fun d _ => congrArg₂ (· * ·) (hq d _ h0 ?_) (hk s d _ ?_ ?_)) (hb s _ ?_ ?_ ?_ rfl)
    · show 128 * ((w 1 : ℕ) / 128) + (d : ℕ) = l + d
      omega
    · show 128 * ((w 0 : ℕ) / 128) + (s : ℕ) = r + s
      omega
    · show 128 * ((w 1 : ℕ) / 512) + (d : ℕ) = 128 * (l / 512) + d
      omega
    · show variant (o + (w 0 : ℕ) / 128) = variant (o + r / 128)
      rw [a0]
    · exact a1
    · show (w 0 : ℕ) % 128 = x 0
      omega
  have eV : (fun j => v (ix2 j (x 1))) = fun s =>
      V (ix2 ⟨_, row_lt w s⟩ ⟨128 * ((w 1 : ℕ) / 512) + (w 1 : ℕ) % 128, col_lt w ⟨_, Nat.mod_lt _ (by norm_num)⟩⟩) := by
    funext s
    refine hv s _ ?_ ?_
    · show 128 * ((w 0 : ℕ) / 128) + (s : ℕ) = r + s
      omega
    · show 128 * ((w 1 : ℕ) / 512) + (w 1 : ℕ) % 128 = 128 * (l / 512) + (x 1 : ℕ)
      omega
  have eS : e = sk (ix1 ⟨_, head_lt w⟩) := he _ a1
  unfold tile att
  rw [eL, eV, eS]

theorem off_val : ∀ (t : Fin 32) (j : Fin 4), k0_off1 (grid0.coords (t : Fin cfg0.N)) (BitVec.ofNat 32 j) 0 = variant (4 * (t.val % 8) + j) := by
  decide +kernel

theorem off_at (t : Fin cfg0.N) (b : BitVec 32) (h : b.toNat < 4) : k0_off1 (grid0.coords t) b 0 = variant (4 * (t.val % 8) + b.toNat) := by
  have := off_val t ⟨b.toNat, h⟩
  simpa using this

set_option maxHeartbeats 40000000 in
theorem out_B (c : Dev nD) (t : Fin cfg0.N) (h0 : ¬ t.val % 32 = 0) (T : FVec Ideal S3x8x128x384 .f32) (hT : (outsAt0 m c (t.val - 1) (by omega)).2 = T) (y : S1x512x2048.Idx) :
    (outsAt0 m c t.val t.isLt).1 y = mixed (iblk m c 8 t) (iblk m c 9 t) (iblk m c 11 t)
      (att (4 * (t.val % 8)) (X0_1 m c t) (stack (iblk m c 2 t) (iblk m c 3 t) (iblk m c 4 t)) (stack (iblk m c 5 t) (iblk m c 6 t) (iblk m c 7 t)) T (iblk m c 0 t))
      (iblk m c 10 t) y := by
  generalize hA' : att (4 * (t.val % 8)) (X0_1 m c t) (stack (iblk m c 2 t) (iblk m c 3 t) (iblk m c 4 t)) (stack (iblk m c 5 t) (iblk m c 6 t) (iblk m c 7 t)) T
    (iblk m c 0 t) = A
  rw [outsAt0_B m c t h0]
  refine (fun (hA : ∀ w, View.canon (Val := Elt Ideal) (s := S512x1024) (e := .bf16) ?L w = A w) => ?main) ?hA
  case main =>
    frame_out
    refine View.canon_append_of_piecesOf (Val := Elt Ideal) (s := S1x512x2048) (e := .f32) (mixed (iblk m c 8 t) (iblk m c 9 t) (iblk m c 11 t) A (iblk m c 10 t)) ?L' (?p0 :: ?p1 :: ?p2 :: ?p3 :: []) ?_ y ?_
    · refine ⟨fun (x : S1x512x512.Idx) => ?_, fun (x : S1x512x512.Idx) => ?_, fun (x : S1x512x512.Idx) => ?_, fun (x : S1x512x512.Idx) => ?_, trivial⟩
      all_goals
        refine (mix _ _ _ x).trans ?_
        refine congrArg₂ (· * ·) ?_ (Finset.sum_congr rfl fun k _ => congrArg₂ (· * ·) ?_ ?_)
        rotate_left
        · rw [View.readCov_eq_canon']
          refine (hA _).trans (congrArg A (funext fun a => Fin.ext ?_))
          refine (Rect.idx_unit_val _ _ _ _ _).trans ?_
          match a with
          | 0 => exact (Rect.idx_unit_val _ _ _ _ _).symm
          | 1 => exact Nat.zero_add _
        · refine congrArg (iblk m c 10 t) (funext fun a => Fin.ext ?_)
          refine (Rect.idx_unit_val _ _ _ _ _).trans ?_
          match a with
          | 0 => exact Nat.zero_add _
          | 1 => exact (Rect.idx_unit_val _ _ _ _ _).symm
        · repeat refine (congrFun (View.readCov_skip _ _ _ _ _ (by rfl)) _).trans ?_
          rw [View.readCov_eq_canon']
          have hx : (x 2 : ℕ) < 512 := (x 2).isLt
          refine at3 _ (gate _ _ _) _ _ ?_ ?_ ?_
          · exact (Rect.idx_unit_val _ _ _ _ _).trans (Rect.idx_unit_val _ _ _ _ _).symm
          · exact (Rect.idx_unit_val _ _ _ _ _).trans (Rect.idx_unit_val _ _ _ _ _).symm
          intro w hw1 hw2
          replace hw1 := hw1.trans (Rect.idx_unit_val _ _ _ _ _)
          replace hw2 := hw2.trans (Rect.idx_unit_val _ _ _ _ _)
          canon_tiles z hz using (by
            by_cases hh : (x 2 : ℕ) < 256
            · refine ⟨_, .tail _ (.head _), ?_⟩; rw [Rect.mem_set_unit]; exact (low w _ _ hw2 hh)
            · refine ⟨_, .head _, ?_⟩; rw [Rect.mem_set_unit]; exact (high w _ _ _ hw2 (Nat.le_of_not_lt hh) hx rfl))
          all_goals
            refine glu _ _ _ _ _ z w ?_ (fun k => ?_) ?_
            · exact hz1
            · refine congrArg (iblk m c 9 t) (funext fun a => Fin.ext ?_)
              refine (Rect.idx_unit_val _ _ _ _ _).trans ?_
              match a with
              | 0 => exact Nat.zero_add _
              | 1 => exact (hz2.trans (by first | rfl | exact (Nat.zero_add _).symm)).symm
            · refine congrArg (iblk m c 11 t) (funext fun a => Fin.ext ?_)
              refine (Rect.idx_unit_val _ _ _ _ _).trans ?_
              match a with
              | 0 => exact Nat.zero_add _
              | 1 => exact (hz2.trans (by first | rfl | exact (Nat.zero_add _).symm)).symm
    · have h2 : (y 2 : ℕ) < 2048 := (y 2).isLt
      rcases (by omega : (1536 ≤ (y 2 : ℕ) ∧ (y 2 : ℕ) < 1536 + 512) ∨ (1024 ≤ (y 2 : ℕ) ∧ (y 2 : ℕ) < 1024 + 512) ∨ (512 ≤ (y 2 : ℕ) ∧ (y 2 : ℕ) < 512 + 512)
          ∨ (0 ≤ (y 2 : ℕ) ∧ (y 2 : ℕ) < 0 + 512)) with h | h | h | h
      · refine ⟨_, .head _, ?_⟩; rw [Rect.mem_set_unit]; exact (band y _ h.1 h.2)
      · refine ⟨_, .tail _ (.head _), ?_⟩; rw [Rect.mem_set_unit]; exact (band y _ h.1 h.2)
      · refine ⟨_, .tail _ (.tail _ (.head _)), ?_⟩; rw [Rect.mem_set_unit]; exact (band y _ h.1 h.2)
      · refine ⟨_, .tail _ (.tail _ (.tail _ (.head _))), ?_⟩; rw [Rect.mem_set_unit]; exact (band y _ h.1 h.2)
  case hA =>
    subst hA'
    intro w
    refine (fun (hK : ∀ w, View.canon (Val := Elt Ideal) (s := S768x256) (e := .bf16) ?LK w = stack (iblk m c 2 t) (iblk m c 3 t) (iblk m c 4 t) w) => ?mK) ?hK
    case mK =>
      refine (fun (hV : ∀ w, View.canon (Val := Elt Ideal) (s := S768x256) (e := .bf16) ?LV w = stack (iblk m c 5 t) (iblk m c 6 t) (iblk m c 7 t) w) => ?mV) ?hV
      case mV =>
        rw [read_unread_whole, hT]
        canon_tiles x h
        case' piece0 | piece4 | piece8 | piece12 | piece16 | piece20 | piece24 | piece28 => refine (tile3 _ _ _ _ _ _ _ _ _ _ _ _ _ _ x).trans ?_
        case' piece1 | piece5 | piece9 | piece13 | piece17 | piece21 | piece25 | piece29 => refine (tile2 _ _ _ _ _ _ _ _ _ _ _ _ _ _ x).trans ?_
        case' piece2 | piece6 | piece10 | piece14 | piece18 | piece22 | piece26 | piece30 => refine (tile1 _ _ _ _ _ _ _ _ _ _ _ _ _ _ x).trans ?_
        case' piece3 | piece7 | piece11 | piece15 | piece19 | piece23 | piece27 | piece31 => refine (tile0 _ _ _ _ _ _ _ _ _ _ _ _ _ _ x).trans ?_
        all_goals
          refine tile_att _ _ _ _ _ _ _ _ _ _ _ x w _ _ (by first | exact h0 | exact h0.trans (Nat.zero_add _).symm)
            (by first | exact h1 | exact h1.trans (Nat.zero_add _).symm) ?_ ?_ (fun d i e1 e2 => ?_) (fun s d i e0 e1 => ?_) (fun s i e0 e1 => ?_)
            (fun s i e0 e1 e2 e3 => ?_) (fun i e0 => ?_)
          · rfl
          · rfl
          · refine congrArg (X0_1 m c t) (funext fun a => Fin.ext ?_)
            refine (Rect.idx_unit_val _ _ _ _ _).trans ?_
            match a with
            | 0 => exact (Nat.lt_one_iff.1 (i 0).isLt).symm
            | 1 => exact e1.symm
            | 2 => exact e2.symm
          · rw [View.readCov_eq_canon']
            refine (hK _).trans (congrArg _ (funext fun a => Fin.ext ?_))
            refine (Rect.idx_unit_val _ _ _ _ _).trans ?_
            match a with
            | 0 => exact e0.symm
            | 1 => exact e1.symm
          · rw [View.readCov_eq_canon']
            refine (hV _).trans (congrArg _ (funext fun a => Fin.ext ?_))
            refine (Rect.idx_unit_val _ _ _ _ _).trans ?_
            match a with
            | 0 => exact e0.symm
            | 1 => exact e1.symm
          · refine congrArg T (funext fun a => Fin.ext ?_)
            refine (Rect.idx_unit_val _ _ _ _ _).trans ?_
            match a with
            | 0 => exact (Nat.add_zero _).trans ((off_at t _ (by decide)).trans (congrArg Fin.val e0).symm)
            | 1 => exact e1.symm
            | 2 => exact (Nat.zero_add _).trans e2.symm
            | 3 => exact (Nat.zero_add _).trans e3.symm
          · refine congrArg (iblk m c 0 t) (funext fun a => Fin.ext ?_)
            refine (Rect.idx_unit_val _ _ _ _ _).trans ?_
            match a with
            | 0 => exact e0.symm
      case hV =>
        intro w
        canon_tiles x h using (by
          rcases (by omega : (w 0 : ℕ) < 0 + 128 ∨ (128 ≤ (w 0 : ℕ) ∧ (w 0 : ℕ) < 128 + 512) ∨ 640 ≤ (w 0 : ℕ)) with h | h | h
          · refine ⟨_, .tail _ (.tail _ (.head _)), ?_⟩; rw [Rect.mem_set_unit]; exact rows w _ _ (Nat.zero_le _) h
          · refine ⟨_, .tail _ (.head _), ?_⟩; rw [Rect.mem_set_unit]; exact rows w _ _ h.1 h.2
          · refine ⟨_, .head _, ?_⟩; rw [Rect.mem_set_unit]; exact rows w _ _ h (w 0).isLt)
        · exact stack_next _ _ _ x w h0 h1
        · exact stack_mid _ _ _ x w h0 h1
        · exact stack_prev _ _ _ x w h0 h1
    case hK =>
      intro w
      canon_tiles x h using (by
        rcases (by omega : (w 0 : ℕ) < 0 + 128 ∨ (128 ≤ (w 0 : ℕ) ∧ (w 0 : ℕ) < 128 + 512) ∨ 640 ≤ (w 0 : ℕ)) with h | h | h
        · refine ⟨_, .tail _ (.tail _ (.head _)), ?_⟩; rw [Rect.mem_set_unit]; exact rows w _ _ (Nat.zero_le _) h
        · refine ⟨_, .tail _ (.head _), ?_⟩; rw [Rect.mem_set_unit]; exact rows w _ _ h.1 h.2
        · refine ⟨_, .head _, ?_⟩; rw [Rect.mem_set_unit]; exact rows w _ _ h (w 0).isLt)
      · exact stack_next _ _ _ x w h0 h1
      · exact stack_mid _ _ _ x w h0 h1
      · exact stack_prev _ _ _ x w h0 h1

end Cert.KernelIdeal.Pay
end
-- ==== Proof.AttnBlk.lean ====
/- The windowed attention's blocks, as the arguments they are cut from. -/
module

public import proofs.«01_k».proof.Proof.AttnPay
public import proofs.«01_k».proof.Proof.Gen.KernelIdeal.Value
public import Idealize.ShloMosaic.Lib.Claim

@[expose] public section

set_option maxRecDepth 16384

noncomputable section

namespace Cert.KernelIdeal.Val

open Cert.KernelIdeal Cert.KernelIdeal.Gen Cert.KernelIdeal.Value
open Idealize.ShloMosaic Idealize.ShloMosaic.TcCoe Idealize.SL.Sem

/-- The queries' scale. -/
def scale : FVec Ideal S_ .f32 := Host.divf (Host.rsqrt (constant S_ .f32 0x43000000#32)) (Host.log (constant S_ .f32 0x40000000#32))

/-- The columns side by side: scaled queries, three other arrays, keys and values. -/
def cols (x0 x3 x4 x5 : FVec Ideal S4x4096x1024 .f32) (x1 x2 : FVec Ideal S4x4096x256 .f32) : FVec Ideal S4x4096x4608 .f32 :=
  concatenate S4x4096x4608 2 [⟨S4x4096x1024, mulf x0 (broadcastInDim S4x4096x1024 ![] bcast_S_S4x4096x1024 scale)⟩, ⟨S4x4096x1024, x3⟩, ⟨S4x4096x1024, x4⟩, ⟨S4x4096x1024, x5⟩, ⟨S4x4096x256, x1⟩, ⟨S4x4096x256, x2⟩]
    concatenates_S4x4096x1024_S4x4096x1024_S4x4096x1024_S4x4096x1024_S4x4096x256_S4x4096x256_S4x4096x4608_d2

section

variable (x0 x3 x4 x5 : FVec Ideal S4x4096x1024 .f32) (x1 x2 : FVec Ideal S4x4096x256 .f32) (b : Fin 4) (r : Fin 4096)

theorem cols_q (k : Fin 1024) : cols x0 x3 x4 x5 x1 x2 (ix3 b r ⟨k.val, by omega⟩) = x0 (ix3 b r k) * scale ix0 := by
  have hk := k.isLt
  generalize hs : scale = S
  pointwise [cols]
  rw [hs]

theorem cols_k (k : Fin 256) : cols x0 x3 x4 x5 x1 x2 (ix3 b r ⟨4096 + k.val, by omega⟩) = x1 (ix3 b r k) := by
  have hk := k.isLt
  pointwise [cols]
  rw [dif_neg (by omega), dif_neg (by omega), dif_neg (by omega), dif_neg (by omega), dif_pos (by omega)]
  refine congrArg (fun j => x1 (ix3 b r j)) (Fin.ext ?_)
  dsimp only
  omega

theorem cols_v (k : Fin 256) : cols x0 x3 x4 x5 x1 x2 (ix3 b r ⟨4352 + k.val, by omega⟩) = x2 (ix3 b r k) := by
  have hk := k.isLt
  pointwise [cols]
  rw [dif_neg (by omega), dif_neg (by omega), dif_neg (by omega), dif_neg (by omega), dif_neg (by omega)]
  refine congrArg (fun j => x2 (ix3 b r j)) (Fin.ext ?_)
  dsimp only
  omega

end

variable (m : (ℓ : Loc nD τ sig) → Buf (Elt Ideal) ℓ) (c : Dev nD)

/-- The arguments as launched. -/
abbrev a0 : FVec Ideal S4x4096x1024 .f32 := m ((c : Thread nD τ).loc main_arg0)
abbrev a1 : FVec Ideal S4x4096x256 .f32 := m ((c : Thread nD τ).loc main_arg1)
abbrev a2 : FVec Ideal S4x4096x256 .f32 := m ((c : Thread nD τ).loc main_arg2)
abbrev a3 : FVec Ideal S4x4096x1024 .f32 := m ((c : Thread nD τ).loc main_arg3)
abbrev a4 : FVec Ideal S4x4096x1024 .f32 := m ((c : Thread nD τ).loc main_arg4)
abbrev a5 : FVec Ideal S4x4096x1024 .f32 := m ((c : Thread nD τ).loc main_arg5)
abbrev a6 : FVec Ideal S4x4096x2048 .f32 := m ((c : Thread nD τ).loc main_arg6)
abbrev a7 : FVec Ideal S2048x8704 .f32 := m ((c : Thread nD τ).loc main_arg7)
abbrev a8 : FVec Ideal S4096 .f32 := m ((c : Thread nD τ).loc main_arg8)
abbrev a9 : FVec Ideal S8 .f32 := m ((c : Thread nD τ).loc main_arg9)
abbrev a10 : FVec Ideal S1024x2048 .f32 := m ((c : Thread nD τ).loc main_arg10)

/-- The array the query, key and value blocks are cut from. -/
def big : FVec Ideal S4x4096x4608 .bf16 := V m c main_v6

theorem big_eq : big m c = truncf .bf16 (cols (a0 m c) (a3 m c) (a4 m c) (a5 m c) (a1 m c) (a2 m c)) bitsLt_bf16_f32 := by
  rfl

theorem big_q (b : Fin 4) (r : Fin 4096) (k : Fin 1024) : big m c (ix3 b r ⟨k.val, by omega⟩) = a0 m c (ix3 b r k) * scale ix0 :=
  (congrFun (big_eq m c) _).trans (cols_q _ _ _ _ _ _ b r k)

theorem big_k (b : Fin 4) (r : Fin 4096) (k : Fin 256) : big m c (ix3 b r ⟨4096 + k.val, by omega⟩) = a1 m c (ix3 b r k) :=
  (congrFun (big_eq m c) _).trans (cols_k _ _ _ _ _ _ b r k)

theorem big_v (b : Fin 4) (r : Fin 4096) (k : Fin 256) : big m c (ix3 b r ⟨4352 + k.val, by omega⟩) = a2 m c (ix3 b r k) :=
  (congrFun (big_eq m c) _).trans (cols_v _ _ _ _ _ _ b r k)

theorem idx : ∀ t : Fin cfg0.N, (win0_0.index t (0 : Fin 1) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = 4 * (t.val % 8) - 1 ∧ win0_2.index t (2 : Fin 3) = 16)
    ∧ (win0_3.index t (0 : Fin 3) = t.val / 8 ∧ win0_3.index t (1 : Fin 3) = t.val % 8 ∧ win0_3.index t (2 : Fin 3) = 16)
    ∧ (win0_4.index t (0 : Fin 3) = t.val / 8 ∧ win0_4.index t (1 : Fin 3) = min (4 * (t.val % 8) + 4) 31 ∧ win0_4.index t (2 : Fin 3) = 16)
    ∧ (win0_5.index t (0 : Fin 3) = t.val / 8 ∧ win0_5.index t (1 : Fin 3) = 4 * (t.val % 8) - 1 ∧ win0_5.index t (2 : Fin 3) = 17)
    ∧ (win0_6.index t (0 : Fin 3) = t.val / 8 ∧ win0_6.index t (1 : Fin 3) = t.val % 8 ∧ win0_6.index t (2 : Fin 3) = 17)
    ∧ (win0_7.index t (0 : Fin 3) = t.val / 8 ∧ win0_7.index t (1 : Fin 3) = min (4 * (t.val % 8) + 4) 31 ∧ win0_7.index t (2 : Fin 3) = 17)
    ∧ (win0_8.index t (0 : Fin 3) = t.val / 8 ∧ win0_8.index t (1 : Fin 3) = t.val % 8 ∧ win0_8.index t (2 : Fin 3) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0) :=
  (by decide +kernel : ∀ t : Fin grid0.N, _)

theorem blk0 (t : Fin cfg0.N) (h : Fin 8) : iblk m c 0 t (ix1 h) = a9 m c (ix1 h) := by
  blk_point [iblk, V, idx t]

theorem blk8 (t : Fin cfg0.N) (a : Fin 512) (k : Fin 2048) (h : t.val / 8 < 4) (h' : t.val % 8 * 512 + a.val < 4096) :
    iblk m c 8 t (ix3 0 a k) = a6 m c (ix3 ⟨t.val / 8, h⟩ ⟨t.val % 8 * 512 + a.val, h'⟩ k) := by
  blk_point [iblk, V, idx t]

theorem blk9 (t : Fin cfg0.N) (a k : Fin 2048) : iblk m c 9 t (ix2 a k) = a7 m c (ix2 a ⟨4608 + k.val, by omega⟩) := by
  blk_point [iblk, V, idx t]

theorem blk10 (t : Fin cfg0.N) (a : Fin 1024) (k : Fin 2048) : iblk m c 10 t (ix2 a k) = a10 m c (ix2 a k) := by
  blk_point [iblk, V, idx t]

theorem blk11 (t : Fin cfg0.N) (k : Fin 2048) : iblk m c 11 t (ix2 0 k) = a8 m c (ix1 ⟨k.val, by omega⟩) := by
  blk_point [iblk, V, idx t]

theorem blk2 (t : Fin cfg0.N) (a : Fin 128) (k : Fin 256) (h : t.val / 8 < 4) (h' : (4 * (t.val % 8) - 1) * 128 + a.val < 4096) :
    iblk m c 2 t (ix3 0 a k) = a1 m c (ix3 ⟨t.val / 8, h⟩ ⟨(4 * (t.val % 8) - 1) * 128 + a.val, h'⟩ k) := by
  refine Eq.trans ?_ (big_k m c ⟨t.val / 8, h⟩ ⟨(4 * (t.val % 8) - 1) * 128 + a.val, h'⟩ k)
  unfold iblk big
  show ((cfg0.win 2).blk t).view.read (Elt Ideal) (V m c main_v6) (ix3 0 a k) = _
  generalize (V m c main_v6 : FVec Ideal S4x4096x4608 .bf16) = X
  blk_point [idx t]

theorem blk3 (t : Fin cfg0.N) (a : Fin 512) (k : Fin 256) (h : t.val / 8 < 4) (h' : (t.val % 8) * 512 + a.val < 4096) :
    iblk m c 3 t (ix3 0 a k) = a1 m c (ix3 ⟨t.val / 8, h⟩ ⟨(t.val % 8) * 512 + a.val, h'⟩ k) := by
  refine Eq.trans ?_ (big_k m c ⟨t.val / 8, h⟩ ⟨(t.val % 8) * 512 + a.val, h'⟩ k)
  unfold iblk big
  show ((cfg0.win 3).blk t).view.read (Elt Ideal) (V m c main_v6) (ix3 0 a k) = _
  generalize (V m c main_v6 : FVec Ideal S4x4096x4608 .bf16) = X
  blk_point [idx t]

theorem blk4 (t : Fin cfg0.N) (a : Fin 128) (k : Fin 256) (h : t.val / 8 < 4) (h' : (min (4 * (t.val % 8) + 4) 31) * 128 + a.val < 4096) :
    iblk m c 4 t (ix3 0 a k) = a1 m c (ix3 ⟨t.val / 8, h⟩ ⟨(min (4 * (t.val % 8) + 4) 31) * 128 + a.val, h'⟩ k) := by
  refine Eq.trans ?_ (big_k m c ⟨t.val / 8, h⟩ ⟨(min (4 * (t.val % 8) + 4) 31) * 128 + a.val, h'⟩ k)
  unfold iblk big
  show ((cfg0.win 4).blk t).view.read (Elt Ideal) (V m c main_v6) (ix3 0 a k) = _
  generalize (V m c main_v6 : FVec Ideal S4x4096x4608 .bf16) = X
  blk_point [idx t]

theorem blk5 (t : Fin cfg0.N) (a : Fin 128) (k : Fin 256) (h : t.val / 8 < 4) (h' : (4 * (t.val % 8) - 1) * 128 + a.val < 4096) :
    iblk m c 5 t (ix3 0 a k) = a2 m c (ix3 ⟨t.val / 8, h⟩ ⟨(4 * (t.val % 8) - 1) * 128 + a.val, h'⟩ k) := by
  refine Eq.trans ?_ (big_v m c ⟨t.val / 8, h⟩ ⟨(4 * (t.val % 8) - 1) * 128 + a.val, h'⟩ k)
  unfold iblk big
  show ((cfg0.win 5).blk t).view.read (Elt Ideal) (V m c main_v6) (ix3 0 a k) = _
  generalize (V m c main_v6 : FVec Ideal S4x4096x4608 .bf16) = X
  blk_point [idx t]

theorem blk6 (t : Fin cfg0.N) (a : Fin 512) (k : Fin 256) (h : t.val / 8 < 4) (h' : (t.val % 8) * 512 + a.val < 4096) :
    iblk m c 6 t (ix3 0 a k) = a2 m c (ix3 ⟨t.val / 8, h⟩ ⟨(t.val % 8) * 512 + a.val, h'⟩ k) := by
  refine Eq.trans ?_ (big_v m c ⟨t.val / 8, h⟩ ⟨(t.val % 8) * 512 + a.val, h'⟩ k)
  unfold iblk big
  show ((cfg0.win 6).blk t).view.read (Elt Ideal) (V m c main_v6) (ix3 0 a k) = _
  generalize (V m c main_v6 : FVec Ideal S4x4096x4608 .bf16) = X
  blk_point [idx t]

theorem blk7 (t : Fin cfg0.N) (a : Fin 128) (k : Fin 256) (h : t.val / 8 < 4) (h' : (min (4 * (t.val % 8) + 4) 31) * 128 + a.val < 4096) :
    iblk m c 7 t (ix3 0 a k) = a2 m c (ix3 ⟨t.val / 8, h⟩ ⟨(min (4 * (t.val % 8) + 4) 31) * 128 + a.val, h'⟩ k) := by
  refine Eq.trans ?_ (big_v m c ⟨t.val / 8, h⟩ ⟨(min (4 * (t.val % 8) + 4) 31) * 128 + a.val, h'⟩ k)
  unfold iblk big
  show ((cfg0.win 7).blk t).view.read (Elt Ideal) (V m c main_v6) (ix3 0 a k) = _
  generalize (V m c main_v6 : FVec Ideal S4x4096x4608 .bf16) = X
  blk_point [idx t]

theorem blk1 (t : Fin cfg0.N) (a : Fin 512) (k : Fin 1024) (h : t.val / 8 < 4) (h' : t.val % 8 * 512 + a.val < 4096) :
    X0_1 m c t (ix3 0 a k) = a0 m c (ix3 ⟨t.val / 8, h⟩ ⟨t.val % 8 * 512 + a.val, h'⟩ k) * scale ix0 := by
  refine Eq.trans ?_ (big_q m c ⟨t.val / 8, h⟩ ⟨t.val % 8 * 512 + a.val, h'⟩ k)
  unfold X0_1 Pipeline.Window.fill
  rw [dif_pos (moved0_1 t (ix3 0 a k))]
  unfold iblk big
  show ((cfg0.win 1).blk t).view.read (Elt Ideal) (V m c main_v6) _ = _
  generalize (V m c main_v6 : FVec Ideal S4x4096x4608 .bf16) = X
  obtain ⟨-, ⟨e0, e1, e2⟩, -⟩ := idx t
  refine congrArg X ?_
  funext d
  apply Fin.ext
  match d with
  | 0 => show win0_1.index t (0 : Fin 3) * 1 + 1 * 0 = t.val / 8; omega
  | 1 => show win0_1.index t (1 : Fin 3) * 512 + 1 * a.val = t.val % 8 * 512 + a.val; omega
  | 2 => show win0_1.index t (2 : Fin 3) * 1024 + 1 * k.val = k.val; omega

end Cert.KernelIdeal.Val

end
-- ==== Proof.AttnSoft.lean ====
/- A softmax in powers of two against one in exponentials: both are the weights over their sum. -/
module

public import Idealize.ShloMosaic.Lib.Pointwise

@[expose] public section

noncomputable section

namespace AttnSoft

open Idealize.ShloMosaic

/-- The greatest of the logits and the sink. -/
def top (l : Fin 384 → EReal) (σ : EReal) : EReal := max (Finset.univ.fold max ⊥ l) σ

/-- The total of the exponentials, the sink's included. -/
def total (l : Fin 384 → EReal) (σ : EReal) : EReal := (∑ s, Ideal.exp (l s - top l σ)) + Ideal.exp (σ - top l σ)

/-- The softmax of the logits and the sink, weighing the values. -/
def soft (l V : Fin 384 → EReal) (σ : EReal) : EReal := ∑ s, Ideal.div (Ideal.exp (l s - top l σ)) (total l σ) * V s

/-- The same in powers of two: the weighed values' sum over the weights' sum. -/
def soft2 (L V : Fin 384 → EReal) (S : EReal) : EReal :=
  Ideal.div (∑ s, Ideal.exp2 (L s - top L S) * V s) ((∑ s, Ideal.exp2 (L s - top L S)) + Ideal.exp2 (S - top L S))

theorem top_real (l : Fin 384 → EReal) (σ : ℝ) (hl : ∀ s, l s ≠ ⊤) : ∃ M : ℝ, top l σ = M := by
  have h1 : top l σ < ⊤ := max_lt ((Finset.fold_max_lt _).2 ⟨bot_lt_top, fun s _ => lt_top_iff_ne_top.2 (hl s)⟩) (EReal.coe_lt_top σ)
  have h2 : ⊥ < top l σ := lt_max_of_lt_right (EReal.bot_lt_coe σ)
  exact ⟨(top l σ).toReal, (EReal.coe_toReal h1.ne h2.ne').symm⟩

/-- A logit's weight. -/
def wt (a : EReal) : ℝ := if a = ⊥ then 0 else Real.exp a.toReal

theorem wt_nonneg (a : EReal) : 0 ≤ wt a := by
  unfold wt; split
  · exact le_rfl
  · exact (Real.exp_pos _).le

theorem exp_wt (a : EReal) (ha : a ≠ ⊤) (M : ℝ) : Ideal.exp (a - M) = ((wt a * Real.exp (-M) : ℝ) : EReal) := by
  induction a using EReal.rec with
  | bot => simp [wt]
  | top => exact absurd rfl ha
  | coe a =>
    rw [← EReal.coe_sub, Ideal.exp_coe, wt, if_neg (EReal.coe_ne_bot a), EReal.toReal_coe, ← Real.exp_add, sub_eq_add_neg]

theorem exp2_wt (a : EReal) (ha : a ≠ ⊤) (M : ℝ) :
    Ideal.exp2 (a * (((Real.log 2)⁻¹ : ℝ) : EReal) - M) = ((wt a * Real.exp (-(M * Real.log 2)) : ℝ) : EReal) := by
  have hlog : 0 < Real.log 2 := Real.log_pos (by norm_num)
  induction a using EReal.rec with
  | bot =>
    rw [EReal.bot_mul_coe_of_pos (inv_pos.2 hlog)]
    simp [wt]
  | top => exact absurd rfl ha
  | coe a =>
    rw [← EReal.coe_mul, ← EReal.coe_sub, Ideal.exp2_coe, wt, if_neg (EReal.coe_ne_bot a), EReal.toReal_coe, ← Real.exp_add]
    refine congrArg _ ((Real.rpow_def_of_pos (by norm_num) _).trans (congrArg _ ?_))
    field_simp
    ring

theorem sum_coe (f : Fin 384 → ℝ) : (∑ s, (f s : EReal)) = ((∑ s, f s : ℝ) : EReal) := by
  induction (Finset.univ : Finset (Fin 384)) using Finset.cons_induction with
  | empty => simp
  | cons a s h ih => rw [Finset.sum_cons, Finset.sum_cons, ih, EReal.coe_add]

theorem sum_mul_real (f : Fin 384 → EReal) (r : ℝ) (hr : 0 ≤ r) : (∑ s, f s) * (r : EReal) = ∑ s, f s * (r : EReal) := by
  induction (Finset.univ : Finset (Fin 384)) using Finset.cons_induction with
  | empty => simp
  | cons a s h ih =>
    rw [Finset.sum_cons, Finset.sum_cons, ← ih, EReal.right_distrib_of_nonneg_of_ne_top (EReal.coe_nonneg.2 hr) (EReal.coe_ne_top r)]

/-- Both softmaxes agree when the one's logits are the other's over the logarithm of two. -/
theorem soft2_eq (l L V : Fin 384 → EReal) (σ : ℝ) (S : EReal) (hl : ∀ s, l s ≠ ⊤) (hL : ∀ s, L s = l s * (((Real.log 2)⁻¹ : ℝ) : EReal))
    (hS : S = (σ : EReal) * (((Real.log 2)⁻¹ : ℝ) : EReal)) : soft2 L V S = soft l V σ := by
  have hlog : 0 < Real.log 2 := Real.log_pos (by norm_num)
  have hLt : ∀ s, L s ≠ ⊤ := by
    intro s
    rw [hL]
    have := hl s
    generalize l s = a at this ⊢
    induction a using EReal.rec with
    | bot => rw [EReal.bot_mul_coe_of_pos (inv_pos.2 hlog)]; exact bot_ne_top
    | top => exact absurd rfl this
    | coe a => rw [← EReal.coe_mul]; exact EReal.coe_ne_top _
  obtain ⟨M, hM⟩ := top_real l σ hl
  obtain ⟨N, hN⟩ : ∃ N : ℝ, top L S = N := by
    rw [hS, ← EReal.coe_mul]
    exact top_real L _ hLt
  have hw : 0 < (∑ s, wt (l s)) + wt σ := by
    refine add_pos_of_nonneg_of_pos (Finset.sum_nonneg fun s _ => wt_nonneg _) ?_
    rw [wt, if_neg (EReal.coe_ne_bot σ)]
    exact Real.exp_pos _
  unfold soft2 soft total
  rw [hM, hN, hS, exp_wt σ (EReal.coe_ne_top σ), exp2_wt σ (EReal.coe_ne_top σ)]
  simp only [hL, exp_wt _ (hl _), exp2_wt _ (hl _)]
  rw [sum_coe, sum_coe, ← EReal.coe_add, ← EReal.coe_add, ← Finset.sum_mul, ← Finset.sum_mul, ← add_mul, ← add_mul]
  generalize (∑ s, wt (l s)) + wt σ = W at hw
  have hd : W * Real.exp (-(N * Real.log 2)) ≠ 0 := (mul_pos hw (Real.exp_pos _)).ne'
  have hd' : W * Real.exp (-M) ≠ 0 := (mul_pos hw (Real.exp_pos _)).ne'
  rw [Ideal.div_coe hd, sum_mul_real _ _ (one_div_nonneg.2 (mul_pos hw (Real.exp_pos _)).le)]
  refine Finset.sum_congr rfl fun s _ => ?_
  rw [Ideal.div_coe hd', mul_right_comm, ← EReal.coe_mul, ← EReal.coe_mul]
  refine congrArg (· * V s) (congrArg _ ?_)
  have e1 := (Real.exp_pos (-(N * Real.log 2))).ne'
  have e2 := (Real.exp_pos (-M)).ne'
  have e3 := hw.ne'
  field_simp

/-- How far query `a` of a tile is from key `b` of the tile's three blocks of keys. -/
def dist (a b : ℕ) : ℕ := ((a : ℤ) + 128 - b).natAbs

theorem word_int (n : ℕ) (h : n < 2147483648) : (BitVec.ofNat 32 n).toInt = n := by
  rw [BitVec.toInt_eq_toNat_cond, BitVec.toNat_ofNat]; omega

theorem abs_word (a b : ℕ) (ha : a < 128) (hb : b < 384) :
    IntOp.absi (BitVec.ofNat 32 a + 128#32 - BitVec.ofNat 32 b) = BitVec.ofNat 32 (dist a b) := by
  have e' : (BitVec.ofNat 32 a + 128#32 - BitVec.ofNat 32 b).toInt = (a : ℤ) + 128 - b := by
    rw [BitVec.toInt_sub, BitVec.toInt_add, word_int a (by omega), word_int b (by omega), word_int 128 (by omega)]
    simp only [Int.bmod_def]
    omega
  rw [IntOp.absi, BitVec.msb_eq_toInt, e']
  unfold dist
  apply BitVec.eq_of_toInt_eq
  rw [word_int _ (by omega)]
  by_cases h : (a : ℤ) + 128 - b < 0
  · rw [if_pos (by simpa using h), BitVec.toInt_neg, e', Int.bmod_def]; omega
  · rw [if_neg (by simpa using h), e']; omega

theorem dist_lt (a : Fin 128) (b : Fin 384) : dist a b < 512 := by
  unfold dist; omega

theorem bit (p : Prop) [Decidable p] : BitVec.ofBool (decide p) = 1#1 ↔ p := by
  by_cases h : p <;> simp [h]

end AttnSoft

end
-- ==== Proof.AttnTbl.lean ====
/- The bias table the windowed attention's first points write: the scaled distances inside the window, the mask outside it. -/
module

public import proofs.«01_k».proof.Proof.AttnPay
public import proofs.«01_k».proof.Proof.AttnSoft

@[expose] public section

set_option maxRecDepth 16384

noncomputable section

namespace Cert.KernelIdeal.Pay

open Cert.KernelIdeal Cert.KernelIdeal.Gen Cert.KernelIdeal.Value
open Idealize.ShloMosaic Idealize.ShloMosaic.TcCoe Idealize.SL.Sem AttnSoft

/-- The keys a query sees: those within the window, without the first block at the sequence's start and the last at its end. -/
def near (v : Fin 3) (a b : ℕ) : Prop := AttnSoft.dist a b ≤ 128 ∧ (v = 0 → 128 ≤ b) ∧ (v = 2 → b < 256)

/-- A head's slope over the logarithm of two. -/
def slope (h : Fin 8) : EReal :=
  ![((-((1 / 2) * (Real.log 2)⁻¹) : ℝ) : EReal), ((-((1 / 4) * (Real.log 2)⁻¹) : ℝ) : EReal), ((-((1 / 8) * (Real.log 2)⁻¹) : ℝ) : EReal),
    ((-((1 / 16) * (Real.log 2)⁻¹) : ℝ) : EReal), ((-((1 / 32) * (Real.log 2)⁻¹) : ℝ) : EReal), ((-((1 / 64) * (Real.log 2)⁻¹) : ℝ) : EReal),
    ((-((1 / 128) * (Real.log 2)⁻¹) : ℝ) : EReal), ((-((1 / 256) * (Real.log 2)⁻¹) : ℝ) : EReal)] h

open Classical in
/-- The bias table. -/
def table : FVec Ideal S3x8x128x384 .f32 := fun w =>
  if near (w 0) (w 2) (w 3) then slope (w 1) * ((AttnSoft.dist (w 2) (w 3) : ℝ) : EReal) else ⊥

theorem gap (a : Fin 128) (b : Fin 384) : k0_pay2 (ix2 a b) = BitVec.ofNat 32 (AttnSoft.dist a b) := by
  refine Eq.trans ?_ (abs_word a b a.isLt b.isLt)
  pointwise [k0_pay2]
  rfl

theorem mask1 (a : Fin 128) (b : Fin 384) : k0_pay4 (ix2 a b) = BitVec.ofBool (decide (AttnSoft.dist a b ≤ 128)) := by
  have h := dist_lt a b
  pointwise [k0_pay4]
  rw [gap]
  word_cmp

theorem mask0 (a : Fin 128) (b : Fin 384) : k0_pay5 (ix2 a b) = BitVec.ofBool (decide (AttnSoft.dist a b ≤ 128 ∧ 128 ≤ b.val)) := by
  pointwise [k0_pay5]
  rw [mask1]
  word_cmp
  rw [Bool.decide_and]

theorem mask2 (a : Fin 128) (b : Fin 384) : k0_pay6 (ix2 a b) = BitVec.ofBool (decide (AttnSoft.dist a b ≤ 128 ∧ b.val < 256)) := by
  pointwise [k0_pay6]
  rw [mask1]
  word_cmp
  rw [Bool.decide_and]

theorem near0 (a : Fin 128) (b : Fin 384) : k0_pay5 (ix2 a b) = 1#1 ↔ near 0 a b := by
  rw [mask0, bit]
  exact ⟨fun h => ⟨h.1, fun _ => h.2, fun h => absurd h (by decide)⟩, fun h => ⟨h.1, h.2.1 rfl⟩⟩

theorem near1 (a : Fin 128) (b : Fin 384) : k0_pay4 (ix2 a b) = 1#1 ↔ near 1 a b := by
  rw [mask1, bit]
  exact ⟨fun h => ⟨h, fun h => absurd h (by decide), fun h => absurd h (by decide)⟩, fun h => h.1⟩

theorem near2 (a : Fin 128) (b : Fin 384) : k0_pay6 (ix2 a b) = 1#1 ↔ near 2 a b := by
  rw [mask2, bit]
  exact ⟨fun h => ⟨h.1, fun h => absurd h (by decide), fun _ => h.2⟩, fun h => ⟨h.1, h.2.2 rfl⟩⟩

theorem mask_val : (Named.named (F := Ideal) (φ := .f32) κ "mask" 4048155338#32 : EReal) = ⊥ :=
  IdealRules.named_const.ideal_named_scalar _ _ _ _ rfl

/-- A stored piece of the table, from its mask and its slope. -/
theorem entry (M : IVec S128x384 1) (v : Fin 3) (h : Fin 8) (sl : EReal) (hM : ∀ (a : Fin 128) (b : Fin 384), M (ix2 a b) = 1#1 ↔ near v a b)
    (hs : sl = slope h) (x : S1x1x128x384.Idx) (w : S3x8x128x384.Idx) (h0 : (w 0 : ℕ) = v) (h1 : (w 1 : ℕ) = h) (h2 : (w 2 : ℕ) = x 2)
    (h3 : (w 3 : ℕ) = x 3) :
    k0_pay13 (F := Ideal) M (mulf (broadcast S128x384 sl) (sitofp .f32 k0_pay2)) k0_pay12 x = table w := by
  obtain rfl : w 0 = v := Fin.ext h0
  obtain rfl : w 1 = h := Fin.ext h1
  subst hs
  unfold table
  rw [h2, h3]
  clear h0 h1
  idx_vars x
  pointwise [k0_pay13, k0_pay12]
  rw [gap, mask_val]
  have hd : (FloatOps.sitofp (F := Ideal) FTy.f32 (BitVec.ofNat 32 (dist x2 x3)) : EReal) = ((dist x2 x3 : ℝ) : EReal) := by
    refine congrArg (fun z : ℤ => ((z : ℝ) : EReal)) (word_int _ ?_)
    have := dist_lt x2 x3
    omega
  by_cases hn : near (w 0) x2 x3
  · refine Eq.trans ?_ (if_pos hn).symm
    exact (if_pos ((hM x2 x3).2 hn)).trans (congrArg (slope (w 1) * ·) hd)
  · refine Eq.trans ?_ (if_neg hn).symm
    exact if_neg fun e => hn ((hM x2 x3).1 e)

theorem at0 {n k : ℕ} (z : Fin 1) (h : n = k + z) : n = k := by
  have := z.isLt; omega

theorem at0' {n : ℕ} (z : Fin 1) (h : n = z) : n = 0 := by
  have := z.isLt; omega

theorem off0 {n k : ℕ} (h : n = 0 + k) : n = k := h.trans (Nat.zero_add k)

set_option maxHeartbeats 4000000 in
/-- The table after a first point. -/
theorem table_A (m : (ℓ : Loc nD τ sig) → Buf (Elt Ideal) ℓ) (c : Dev nD) (t : Fin cfg0.N) (h0 : t.val % 32 = 0) : (outsAt0 m c t.val t.isLt).2 = table := by
  rw [outsAt0_A m c t h0]
  frame_out
  funext w
  canon_tiles x h
  · exact entry _ 2 7 _ near2 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 1 7 _ near1 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 0 7 _ near0 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 2 6 _ near2 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 1 6 _ near1 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 0 6 _ near0 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 2 5 _ near2 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 1 5 _ near1 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 0 5 _ near0 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 2 4 _ near2 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 1 4 _ near1 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 0 4 _ near0 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 2 3 _ near2 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 1 3 _ near1 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 0 3 _ near0 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 2 2 _ near2 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 1 2 _ near1 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 0 2 _ near0 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 2 1 _ near2 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 1 1 _ near1 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 0 1 _ near0 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 2 0 _ near2 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 1 0 _ near1 (IdealRules.named_const.ideal_named_scalar _ _ _ _ rfl) x w (by first | exact at0 _ h0 | exact at0' _ h0) (by first | exact at0 _ h1 | exact at0' _ h1) (by first | exact h2 | exact off0 h2) (by first | exact h3 | exact off0 h3)
  · exact entry _ 0 0 _ near0 (IdealRules.named_const.ideal_named_scalar _ _ _ _ rfl) x w (by first | exact at0 _ h0 | exact at0' _ h0) (by first | exact at0 _ h1 | exact at0' _ h1) (by first | exact h2 | exact off0 h2) (by first | exact h3 | exact off0 h3)

end Cert.KernelIdeal.Pay

end
-- ==== Proof.AttnRef.lean ====
/- The reference of the windowed attention, read at an index. -/
module

public import Idealize.ShloMosaic.Lib.Pointwise
public import proofs.«01_k».proof.Proof.AttnSoft
public import proofs.«01_k».proof.Proof.Gen.ReferenceIdeal.Read

@[expose] public section

set_option maxRecDepth 16384

noncomputable section

namespace Cert.ReferenceIdeal.At

open Cert.ReferenceIdeal Cert.ReferenceIdeal.Gen Cert.ReferenceIdeal.Read
open Idealize.ShloMosaic Idealize.ShloMosaic.TcCoe Idealize.SL.Sem AttnSoft

variable (x0 : FVec Ideal S4x4096x1024 .f32) (x1 : FVec Ideal S4x4096x256 .f32) (x2 : FVec Ideal S4x4096x256 .f32)
  (x6 : FVec Ideal S4x4096x2048 .f32) (x7 : FVec Ideal S2048x8704 .f32) (x8 : FVec Ideal S4096 .f32) (x9 : FVec Ideal S8 .f32)
  (x10 : FVec Ideal S1024x2048 .f32)

/-- Entry `d` of key-value head `g` at key `s` of the three blocks around block `n`: zero off the sequence's ends. -/
def win (x : FVec Ideal S4x4096x256 .f32) (b : Fin 4) (n : Fin 32) (s : Fin 384) (g : Fin 2) (d : Fin 128) : EReal :=
  if h : 128 ≤ n.val * 128 + s.val ∧ n.val * 128 + s.val - 128 < 4096 then
    x (ix3 b ⟨n.val * 128 + s.val - 128, h.2⟩ ⟨g.val * 128 + d.val, by omega⟩) else 0

theorem zero_val : (FloatOps.sitofp (F := Ideal) FTy.f32 0#32 : EReal) = 0 := by
  show (((0#32 : BitVec 32).toInt : ℝ) : EReal) = 0
  simp

theorem in3 (x : FVec Ideal S4x4096x256 .f32) (b : Fin 4) (i j : Fin 4096) (k l : Fin 256) (h : i.val = j.val) (h' : k.val = l.val) :
    x (ix3 b i k) = x (ix3 b j l) := by
  obtain rfl := Fin.ext h
  obtain rfl := Fin.ext h'
  rfl

theorem v11_at (b : Fin 4) (n : Fin 32) (s : Fin 384) (g : Fin 2) (d : Fin 128) :
    val_main_v11 (F := Ideal) x1 (ix5 b n s g d) = win x1 b n s g d := by
  pointwise [val_main_v11, val_main_v10, val_main_v9, val_main_v8, val_main_v7, val_main_v6, val_main_v5, val_main_v3, val_main_v1, val_main_call0_v0, val_main_c]
  unfold win
  have hs := s.isLt
  have hn := n.isLt
  split_ifs <;> first
    | (exfalso; omega)
    | exact zero_val
    | (refine in3 x1 b _ _ _ _ ?_ rfl; dsimp only; omega)
    | exact in3 x1 b _ _ _ _ rfl rfl
    | (refine Eq.trans ?_ (dif_pos (by omega)).symm; refine in3 x1 b _ _ _ _ ?_ rfl; dsimp only; omega)
    | (refine Eq.trans ?_ (dif_neg (by omega)).symm; exact zero_val)

theorem v18_at (b : Fin 4) (n : Fin 32) (s : Fin 384) (g : Fin 2) (d : Fin 128) :
    val_main_v18 (F := Ideal) x2 (ix5 b n s g d) = win x2 b n s g d := by
  pointwise [val_main_v18, val_main_v17, val_main_v16, val_main_v15, val_main_v14, val_main_v13, val_main_v12, val_main_v4, val_main_v2, val_main_call1_v0, val_main_c_0]
  unfold win
  have hs := s.isLt
  have hn := n.isLt
  split_ifs <;> first
    | (exfalso; omega)
    | exact zero_val
    | (refine in3 x2 b _ _ _ _ ?_ rfl; dsimp only; omega)
    | exact in3 x2 b _ _ _ _ rfl rfl
    | (refine Eq.trans ?_ (dif_pos (by omega)).symm; refine in3 x2 b _ _ _ _ ?_ rfl; dsimp only; omega)
    | (refine Eq.trans ?_ (dif_neg (by omega)).symm; exact zero_val)

theorem c128 : (Ideal.ofBits FTy.f32 1124073472#32 : EReal) = ((128 : ℝ) : EReal) := by
  simp [Ideal.ofBits, Ideal.ieee]
  rw [← EReal.coe_mul]
  norm_num

theorem v24_at (b : Fin 4) (n : Fin 32) (g : Fin 2) (e : Fin 4) (q : Fin 128) (s : Fin 384)  :
    val_main_v24 (F := Ideal) x0 x1 (ix6 b n g e q s)
      = (∑ d, win x1 b n s g d * x0 (ix3 b ⟨n.val * 128 + q.val, by omega⟩ ⟨g.val * 512 + e.val * 128 + d.val, by omega⟩)) * Ideal.rsqrt ((128 : ℝ) : EReal) := by
  pointwise [val_main_v24, val_main_v23, val_main_v22, val_main_v21, val_main_v20, val_main_v19, val_main_v0, val_main_cst]
  rw [c128]
  simp only [v11_at]

/-- The keys a query of block `n` sees. -/
def sees (n q s : ℕ) : Prop := AttnSoft.dist q s ≤ 128 ∧ 128 ≤ n * 128 + s ∧ n * 128 + s < 4224

theorem gap (q : Fin 128) (s : Fin 384) : IntOp.absi (IntOp.subi (IntOp.addi (BitVec.ofNat 32 q) 128#32) (BitVec.ofNat 32 s)) = BitVec.ofNat 32 (AttnSoft.dist q s) :=
  abs_word q s q.isLt s.isLt

theorem pos_word (n : Fin 32) (s : Fin 384) :
    (IntOp.addi (IntOp.subi (IntOp.muli (BitVec.ofNat 32 n) 128#32) 128#32) (BitVec.ofNat 32 s)).toInt = (n : ℤ) * 128 - 128 + s := by
  have hs := s.isLt
  have hn := n.isLt
  show (BitVec.ofNat 32 n * 128#32 - 128#32 + BitVec.ofNat 32 s).toInt = _
  rw [BitVec.toInt_add, BitVec.toInt_sub, BitVec.toInt_mul, word_int n (by omega), word_int s (by omega), word_int 128 (by omega)]
  simp only [Int.bmod_def]
  omega

theorem both (p q : Prop) [Decidable p] [Decidable q] : BitVec.ofBool (decide p) &&& BitVec.ofBool (decide q) = BitVec.ofBool (decide (p ∧ q)) := by
  by_cases hp : p <;> by_cases hq : q <;> simp [hp, hq]

instance (n q s : ℕ) : Decidable (sees n q s) := by
  unfold sees
  infer_instance

theorem v49_at (n : Fin 32) (q : Fin 128) (s : Fin 384) : val_main_v49 (F := Ideal) (ix3 n q s) = 1#1 ↔ sees n q s := by
  have hs := s.isLt
  have hn := n.isLt
  have hd := dist_lt q s
  have hp := pos_word n s
  pointwise [val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_c_1, val_main_c_2, val_main_c_3, val_main_c_4, val_main_c_5, val_main_c_6]
  rw [gap]
  generalize IntOp.addi (IntOp.subi (IntOp.muli (BitVec.ofNat 32 n) 128#32) 128#32) (BitVec.ofNat 32 s) = p at hp
  have hw := word_int (AttnSoft.dist q s) (by omega)
  generalize BitVec.ofNat 32 (AttnSoft.dist q s) = w at hw
  refine Iff.trans (iff_of_eq (congrArg (· = 1#1) (show _ = BitVec.ofBool (decide (sees n q s)) from ?_))) (bit _)
  show BitVec.ofBool (w.sle 128#32) &&& BitVec.ofBool (BitVec.sle 0#32 p) &&& BitVec.ofBool (p.slt 4096#32) = _
  simp only [BitVec.sle, BitVec.slt, hw, hp]
  have e1 : (128#32 : BitVec 32).toInt = 128 := by decide
  have e2 : (0#32 : BitVec 32).toInt = 0 := by decide
  have e3 : (4096#32 : BitVec 32).toInt = 4096 := by decide
  rw [e1, e2, e3]
  have h : (((AttnSoft.dist q s : ℤ) ≤ 128 ∧ (0 : ℤ) ≤ n * 128 - 128 + s) ∧ (n : ℤ) * 128 - 128 + s < 4096) ↔ sees n q s := by
    unfold sees
    omega
  rw [← decide_eq_decide.2 h, ← both, ← both]

theorem c2 : (Ideal.ofBits FTy.f32 1073741824#32 : EReal) = ((2 : ℝ) : EReal) := by
  simp [Ideal.ofBits, Ideal.ieee]
  rw [← EReal.coe_mul]
  norm_num
theorem cm8 : (Ideal.ofBits FTy.f32 3238002688#32 : EReal) = ((-8 : ℝ) : EReal) := by
  simp [Ideal.ofBits, Ideal.ieee]
  rw [← EReal.coe_mul]
  norm_num
theorem c8 : (Ideal.ofBits FTy.f32 1090519040#32 : EReal) = ((8 : ℝ) : EReal) := by
  simp [Ideal.ofBits, Ideal.ieee]
  rw [← EReal.coe_mul]
  norm_num

theorem v66_at (g : Fin 2) (e : Fin 4) (q : Fin 128) (s : Fin 384)  :
    val_main_v66 (F := Ideal) (ix4 g e q s) = ((-(1 / 2) ^ (g.val * 4 + e.val + 1) * (AttnSoft.dist q s : ℝ) : ℝ) : EReal) := by
  have hw := word_int (g.val * 4 + e.val) (by omega)
  have hd := word_int (AttnSoft.dist q s) (by have := dist_lt q s; omega)
  pointwise [val_main_v66, val_main_v65, val_main_v64, val_main_v63, val_main_v62, val_main_v61, val_main_v60, val_main_v59, val_main_v58, val_main_v57, val_main_v56, val_main_v55, val_main_v54, val_main_v53, val_main_v52, val_main_v51, val_main_v50, val_main_v30, val_main_v29, val_main_v28, val_main_v27, val_main_v26, val_main_v25, val_main_c_1, val_main_cst_10, val_main_cst_9, val_main_cst_8, val_main_cst_7]
  rw [gap, c2, cm8, c8]
  show -Ideal.pow _ (Ideal.div (_ * ((((BitVec.ofNat 32 (g.val * 4 + e.val)).toInt : ℝ) : EReal) + 1)) _) * (((BitVec.ofNat 32 (AttnSoft.dist q s)).toInt : ℝ) : EReal) = _
  rw [hw, hd, Ideal.div_coe (by norm_num), show (1 : EReal) = ((1 : ℝ) : EReal) from rfl, ← EReal.coe_add, ← EReal.coe_mul, ← EReal.coe_mul]
  show -((Real.rpow 2 _ : ℝ) : EReal) * _ = _
  rw [← EReal.coe_neg, ← EReal.coe_mul]
  refine congrArg Real.toEReal ?_
  refine congrArg₂ (· * ·) (congrArg Neg.neg ?_) (by push_cast; rfl)
  show (2 : ℝ) ^ (_ : ℝ) = _
  rw [show (-8 * (((g.val * 4 + e.val : ℕ) : ℤ) + 1 : ℝ) * (1 / 8) : ℝ) = -((g.val * 4 + e.val + 1 : ℕ) : ℝ) by push_cast; ring, Real.rpow_neg (by norm_num), Real.rpow_natCast, one_div, inv_pow]

/-- The logit of key `s` of block `n` for query `q` of head `4 g + e`. -/
def logit (b : Fin 4) (n : Fin 32) (g : Fin 2) (e : Fin 4) (q : Fin 128) (s : Fin 384) : EReal := val_main_v71 (F := Ideal) x0 x1 (ix6 b n g e q s)

theorem fib (b : Fin 4) (n : Fin 32) (g : Fin 2) (e : Fin 4) (q : Fin 128) (i : S4x32x2x4x128x385.Idx) :
    reducesTo_S4x32x2x4x128x385_S4x32x2x4x128_d5.drop i = ix5 b n g e q ↔ ∃ k : Fin 385, ix6 b n g e q k = i := by
  constructor
  · intro h
    refine ⟨i 5, ?_⟩
    funext a; apply Fin.ext
    match a with
    | ⟨0, _⟩ => exact (congrArg Fin.val (congrFun h 0)).symm
    | ⟨1, _⟩ => exact (congrArg Fin.val (congrFun h 1)).symm
    | ⟨2, _⟩ => exact (congrArg Fin.val (congrFun h 2)).symm
    | ⟨3, _⟩ => exact (congrArg Fin.val (congrFun h 3)).symm
    | ⟨4, _⟩ => exact (congrArg Fin.val (congrFun h 4)).symm
    | ⟨5, _⟩ => rfl
  · rintro ⟨k, rfl⟩
    funext a; apply Fin.ext
    match a with
    | ⟨0, _⟩ => rfl
    | ⟨1, _⟩ => rfl
    | ⟨2, _⟩ => rfl
    | ⟨3, _⟩ => rfl
    | ⟨4, _⟩ => rfl

theorem v74_at (b : Fin 4) (n : Fin 32) (g : Fin 2) (e : Fin 4) (q : Fin 128) (s : Fin 385)  :
    val_main_v74 (F := Ideal) x0 x1 x9 (ix6 b n g e q s) = if h : s.val < 384 then val_main_v71 (F := Ideal) x0 x1 (ix6 b n g e q ⟨s.val, h⟩) else x9 (ix1 ⟨g.val * 4 + e.val, by omega⟩) := by
  pointwise [val_main_v74, val_main_v73, val_main_v72]

theorem neg_inf : (Ideal.ofBits .f32 4286578688#32 : EReal) = ⊥ := by simp [Ideal.ofBits, Ideal.ieee]

theorem v71_at (b : Fin 4) (n : Fin 32) (g : Fin 2) (e : Fin 4) (q : Fin 128) (s : Fin 384) :
    (sees n q s → val_main_v71 (F := Ideal) x0 x1 (ix6 b n g e q s) = val_main_v24 (F := Ideal) x0 x1 (ix6 b n g e q s) + val_main_v66 (F := Ideal) (ix4 g e q s))
    ∧ (¬ sees n q s → val_main_v71 (F := Ideal) x0 x1 (ix6 b n g e q s) = ⊥) := by
  have hm := v49_at n q s
  pointwise [val_main_v71, val_main_call2_v2, val_main_call2_v1, val_main_call2_v0, val_main_v70, val_main_v69, val_main_v68, val_main_v67, val_main_cst_11]
  generalize val_main_v49 (F := Ideal) (ix3 n q s) = p at hm
  refine ⟨fun h => ?_, fun h => ?_⟩
  · exact if_pos (hm.2 h)
  · exact (if_neg fun e => h (hm.1 e)).trans neg_inf

theorem fold_last (f : Fin 385 → EReal) : Finset.univ.fold max ⊥ f = max (Finset.univ.fold max ⊥ fun s : Fin 384 => f s.castSucc) (f (Fin.last 384)) := by
  apply le_antisymm
  · refine (Finset.fold_max_le _).2 ⟨bot_le, fun s _ => ?_⟩
    induction s using Fin.lastCases with
    | last => exact le_max_right _ _
    | cast s => exact le_max_of_le_left ((Finset.le_fold_max _).2 (Or.inr ⟨s, Finset.mem_univ _, le_rfl⟩))
  · refine max_le ((Finset.fold_max_le _).2 ⟨bot_le, fun s _ => ?_⟩) ?_
    · exact (Finset.le_fold_max _).2 (Or.inr ⟨_, Finset.mem_univ _, le_rfl⟩)
    · exact (Finset.le_fold_max _).2 (Or.inr ⟨_, Finset.mem_univ _, le_rfl⟩)

/-- The sink of head `4 g + e`. -/
def sink (g : Fin 2) (e : Fin 4) : EReal := x9 (ix1 ⟨g.val * 4 + e.val, by omega⟩)

theorem v74_key (b : Fin 4) (n : Fin 32) (g : Fin 2) (e : Fin 4) (q : Fin 128) (s : Fin 384) :
    val_main_v74 (F := Ideal) x0 x1 x9 (ix6 b n g e q s.castSucc) = logit x0 x1 b n g e q s :=
  (v74_at x0 x1 x9 b n g e q _).trans (dif_pos s.isLt)

theorem v74_sink (b : Fin 4) (n : Fin 32) (g : Fin 2) (e : Fin 4) (q : Fin 128) :
    val_main_v74 (F := Ideal) x0 x1 x9 (ix6 b n g e q (Fin.last 384)) = sink x9 g e :=
  (v74_at x0 x1 x9 b n g e q _).trans (dif_neg (by simp))

theorem v75_at (b : Fin 4) (n : Fin 32) (g : Fin 2) (e : Fin 4) (q : Fin 128) :
    val_main_v75 (F := Ideal) x0 x1 x9 (ix5 b n g e q) = top (logit x0 x1 b n g e q) (sink x9 g e) := by
  unfold val_main_v75
  generalize hv : val_main_v74 (F := Ideal) x0 x1 x9 = v
  refine (Host.reduce_eq_fold (max : EReal → EReal → EReal) v _ _ _ _).trans ?_
  refine (Finset.fold_filter_eq_fold_of_fiber max _ (fun k : Fin 385 => ix6 b n g e q k) (fun u w h => (congrFun h 5 : u = w)) (fib b n g e q) _ v).trans ?_
  rw [show (val_main_cst_12 (F := Ideal) (Shape.Idx.first h_S_) : EReal) = ⊥ from neg_inf, fold_last]
  subst hv
  simp only [v74_key, v74_sink]
  rfl

theorem v77_at (b : Fin 4) (n : Fin 32) (g : Fin 2) (e : Fin 4) (q : Fin 128)  :
    val_main_v77 (F := Ideal) x0 x1 x9 (ix5 b n g e q) = top (logit x0 x1 b n g e q) (sink x9 g e) := by
  have hv := v75_at x0 x1 x9 b n g e q
  generalize hw : val_main_v75 (F := Ideal) x0 x1 x9 = w at hv
  rw [val_main_v77_apply, hw, hv, val_main_v76_apply, val_main_cst_13_apply]
  exact (congrArg (max · _) neg_inf).trans (max_eq_right bot_le)

theorem v81_at (b : Fin 4) (n : Fin 32) (g : Fin 2) (e : Fin 4) (q : Fin 128) (s : Fin 385) :
    val_main_v81 (F := Ideal) x0 x1 x9 (ix6 b n g e q s) = Ideal.exp (val_main_v74 (F := Ideal) x0 x1 x9 (ix6 b n g e q s) - top (logit x0 x1 b n g e q) (sink x9 g e)) := by
  have hv := v77_at x0 x1 x9 b n g e q
  pointwise [val_main_v81, val_main_v80, val_main_v79, val_main_v78]
  rw [hv]

theorem v82_at (b : Fin 4) (n : Fin 32) (g : Fin 2) (e : Fin 4) (q : Fin 128) :
    val_main_v82 (F := Ideal) x0 x1 x9 (ix5 b n g e q) = total (logit x0 x1 b n g e q) (sink x9 g e) := by
  have hv := v81_at x0 x1 x9 b n g e q
  unfold val_main_v82
  generalize val_main_v81 (F := Ideal) x0 x1 x9 = v at hv
  refine (congrArg₂ (· + ·) (show (val_main_cst_14 (F := Ideal) (Shape.Idx.first h_S_) : EReal) = 0 from Ideal.ofBits_zero_f32) (Finset.sum_filter_eq_sum_of_fiber _ (fun k : Fin 385 => ix6 b n g e q k) (fun u w h => (congrFun h 5 : u = w)) (fib b n g e q) v)).trans ?_
  rw [zero_add, Fin.sum_univ_castSucc]
  simp only [hv, v74_key, v74_sink]
  rfl

theorem v85_at (b : Fin 4) (n : Fin 32) (g : Fin 2) (e : Fin 4) (q : Fin 128) (s : Fin 384)  :
    val_main_v85 (F := Ideal) x0 x1 x9 (ix6 b n g e q ⟨s.val, by omega⟩) = Ideal.div (Ideal.exp (logit x0 x1 b n g e q s - top (logit x0 x1 b n g e q) (sink x9 g e))) (total (logit x0 x1 b n g e q) (sink x9 g e)) := by
  have hv := v81_at x0 x1 x9 b n g e q ⟨s.val, by omega⟩
  have hk := v74_key x0 x1 x9 b n g e q s
  have ht := v82_at x0 x1 x9 b n g e q
  rw [show (⟨s.val, by omega⟩ : Fin 385) = s.castSucc from rfl] at hv ⊢
  rw [hk] at hv
  pointwise [val_main_v85, val_main_v84, val_main_v83]
  exact congrArg₂ Ideal.div hv ht

/-- The attended entry `c` of row `r`. -/
def attended (b : Fin 4) (r : Fin 4096) (c : Fin 1024) : EReal :=
  soft (logit x0 x1 b ⟨r.val / 128, by omega⟩ ⟨c.val / 512, by omega⟩ ⟨c.val / 128 % 4, by omega⟩ ⟨r.val % 128, by omega⟩)
    (fun s => win x2 b ⟨r.val / 128, by omega⟩ s ⟨c.val / 512, by omega⟩ ⟨c.val % 128, by omega⟩) (sink x9 ⟨c.val / 512, by omega⟩ ⟨c.val / 128 % 4, by omega⟩)

theorem v89_at (b : Fin 4) (r : Fin 4096) (c : Fin 1024) :
    val_main_v89 (F := Ideal) x0 x1 x2 x9 (ix3 b r c) = attended x0 x1 x2 x9 b r c := by
  pointwise [val_main_v89, val_main_v88, val_main_v87, val_main_v86]
  unfold attended soft
  refine Finset.sum_congr rfl fun s _ => ?_
  refine (mul_comm (_ : EReal) _).trans ?_
  rw [v18_at]
  exact congrArg (· * _) (v85_at x0 x1 x9 b _ _ _ _ s)

theorem v95_at (b : Fin 4) (r : Fin 4096) (c : Fin 2048) :
    val_main_v95 (F := Ideal) x6 x7 x8 (ix3 b r c) = (∑ k, x6 (ix3 b r k) * x7 (ix2 k ⟨4608 + c.val, by omega⟩)) + x8 (ix1 ⟨c.val, by omega⟩) := by
  pointwise [val_main_v95, val_main_v94, val_main_v93, val_main_v92, val_main_v91, val_main_v90]

theorem v101_at (b : Fin 4) (r : Fin 4096) (c : Fin 2048) :
    val_main_v101 (F := Ideal) x6 x7 x8 (ix3 b r c) = Ideal.logistic (val_main_v95 (F := Ideal) x6 x7 x8 (ix3 b r c)) := by
  pointwise [val_main_v101, val_main_v100, val_main_v99, val_main_v98, val_main_v97, val_main_v96, val_main_cst_15, val_main_cst_16]
  rfl

theorem v102_at (b : Fin 4) (r : Fin 4096) (c : Fin 2048) :
    val_main_v102 (F := Ideal) x0 x1 x2 x9 x10 (ix3 b r c) = ∑ k : Fin 1024, attended x0 x1 x2 x9 b r k * x10 (ix2 k c) := by
  have hv := v89_at x0 x1 x2 x9 b r
  unfold val_main_v102
  generalize val_main_v89 (F := Ideal) x0 x1 x2 x9 = v at hv
  pointwise []
  simp only [hv]

theorem v103_at (b : Fin 4) (r : Fin 4096) (c : Fin 2048) :
    val_main_v103 (F := Ideal) x0 x1 x2 x6 x7 x8 x9 x10 (ix3 b r c)
      = Ideal.logistic ((∑ k, x6 (ix3 b r k) * x7 (ix2 k ⟨4608 + c.val, by omega⟩)) + x8 (ix1 ⟨c.val, by omega⟩))
        * ∑ k : Fin 1024, attended x0 x1 x2 x9 b r k * x10 (ix2 k c) := by
  refine (val_main_v103_apply (F := Ideal) x0 x1 x2 x6 x7 x8 x9 x10 (ix3 b r c)).trans ?_
  rw [v102_at, v101_at, v95_at]
  rfl

end Cert.ReferenceIdeal.At

end
-- ==== Proof.AttnHead.lean ====
/- A head's attended entry: the kernel's from its blocks is the reference's. -/
module

public import proofs.«01_k».proof.Proof.AttnBlk
public import proofs.«01_k».proof.Proof.AttnTbl
public import proofs.«01_k».proof.Proof.AttnRef

@[expose] public section

set_option maxRecDepth 16384

noncomputable section

namespace Cert.KernelIdeal.Val

open Cert.KernelIdeal Cert.KernelIdeal.Gen Cert.KernelIdeal.Value Cert.KernelIdeal.Pay
open Idealize.ShloMosaic Idealize.ShloMosaic.TcCoe Idealize.SL.Sem AttnSoft
open Cert.ReferenceIdeal.At (win sees logit sink attended v71_at v24_at v66_at)

/-- The values at the keys of no weight do not matter. -/
theorem soft_congr (l V W : Fin 384 → EReal) (σ : ℝ) (hl : ∀ s, l s ≠ ⊤) (h : ∀ s, l s ≠ ⊥ → V s = W s) : soft l V σ = soft l W σ := by
  obtain ⟨M, hM⟩ := top_real l σ hl
  have hw : 0 < (∑ s, wt (l s)) + wt σ := by
    refine add_pos_of_nonneg_of_pos (Finset.sum_nonneg fun s _ => wt_nonneg _) ?_
    rw [wt, if_neg (EReal.coe_ne_bot σ)]
    exact Real.exp_pos _
  unfold soft total
  rw [hM, exp_wt σ (EReal.coe_ne_top σ)]
  simp only [exp_wt _ (hl _)]
  rw [sum_coe, ← EReal.coe_add, ← Finset.sum_mul, ← add_mul]
  have hd : ((∑ s, wt (l s)) + wt σ) * Real.exp (-M) ≠ 0 := (mul_pos hw (Real.exp_pos _)).ne'
  refine Finset.sum_congr rfl fun s _ => ?_
  by_cases hb : l s = ⊥
  · rw [Ideal.div_coe hd, hb, wt, if_pos rfl, zero_mul, EReal.coe_zero, zero_mul, zero_mul, zero_mul]
  · rw [h s hb]

theorem coe_sum (f : Fin 128 → ℝ) : (∑ s, (f s : EReal)) = ((∑ s, f s : ℝ) : EReal) := by
  induction (Finset.univ : Finset (Fin 128)) using Finset.cons_induction with
  | empty => simp
  | cons a s h ih => rw [Finset.sum_cons, Finset.sum_cons, ih, EReal.coe_add]

theorem slope_eq (h : Fin 8) : slope h = ((-((1 / 2) ^ (h.val + 1) * (Real.log 2)⁻¹) : ℝ) : EReal) := by
  match h with
  | 0 => exact congrArg Real.toEReal (by norm_num)
  | 1 => exact congrArg Real.toEReal (by norm_num)
  | 2 => exact congrArg Real.toEReal (by norm_num)
  | 3 => exact congrArg Real.toEReal (by norm_num)
  | 4 => exact congrArg Real.toEReal (by norm_num)
  | 5 => exact congrArg Real.toEReal (by norm_num)
  | 6 => exact congrArg Real.toEReal (by norm_num)
  | 7 => exact congrArg Real.toEReal (by norm_num)

theorem near_sees (n : ℕ) (hn : n < 32) (q : Fin 128) (s : Fin 384) : near (variant n) q s ↔ sees n q s := by
  have hs := s.isLt
  unfold near sees variant
  by_cases h0 : n = 0
  · subst h0
    simp
    omega
  · by_cases h1 : n = 31
    · subst h1
      simp
      omega
    · simp [h0, h1]
      omega

theorem root : Ideal.rsqrt ((128 : ℝ) : EReal) = (((√128)⁻¹ : ℝ) : EReal) := by
  rw [Ideal.rsqrt_coe, if_neg (by norm_num), if_neg (by norm_num)]

theorem scale_val : scale ix0 = (((√128)⁻¹ * (Real.log 2)⁻¹ : ℝ) : EReal) := by
  show Ideal.div (Ideal.rsqrt (Ideal.ofBits .f32 1124073472#32)) (Ideal.log (Ideal.ofBits .f32 1073741824#32)) = _
  rw [Cert.ReferenceIdeal.At.c128, Cert.ReferenceIdeal.At.c2, root, Ideal.log_coe]
  norm_num
  rw [Ideal.div_coe (Real.log_pos (by norm_num)).ne', ← EReal.coe_mul, one_div]
  exact EReal.coe_mul _ _

theorem at3 {a b e : ℕ} (x : FVec Ideal ⟨3, ![a, b, e]⟩ .f32) (i i' : Fin a) (j j' : Fin b) (k k' : Fin e) (hi : i.val = i'.val) (hj : j.val = j'.val)
    (hk : k.val = k'.val) : x (ix3 i j k) = x (ix3 i' j' k') := by
  obtain rfl := Fin.ext hi
  obtain rfl := Fin.ext hj
  obtain rfl := Fin.ext hk
  rfl

/-- The three blocks stacked read the array at the rows around the centre's, wherever those are in it. -/
theorem stack_at (p n : FVec Ideal S1x128x256 .bf16) (q : FVec Ideal S1x512x256 .bf16) (A : FVec Ideal S4x4096x256 .f32) (b : Fin 4) (i : ℕ) (hi : i < 8)
    (hp : ∀ (a : Fin 128) (k : Fin 256) (h : (4 * i - 1) * 128 + a.val < 4096), p (ix3 0 a k) = A (ix3 b ⟨_, h⟩ k))
    (hq : ∀ (a : Fin 512) (k : Fin 256) (h : i * 512 + a.val < 4096), q (ix3 0 a k) = A (ix3 b ⟨_, h⟩ k))
    (hn : ∀ (a : Fin 128) (k : Fin 256) (h : min (4 * i + 4) 31 * 128 + a.val < 4096), n (ix3 0 a k) = A (ix3 b ⟨_, h⟩ k))
    (w : Fin 768) (k : Fin 256) (h : 128 ≤ i * 512 + w.val) (h' : i * 512 + w.val - 128 < 4096) :
    stack p q n (ix2 w k) = A (ix3 b ⟨i * 512 + w.val - 128, h'⟩ k) := by
  have hw := w.isLt
  unfold stack
  by_cases h0 : w.val < 128
  · refine (dif_pos h0).trans ((hp ⟨w.val, h0⟩ k (by dsimp only; omega)).trans (at3 A _ _ _ _ _ _ rfl ?_ rfl))
    dsimp only
    omega
  · refine (dif_neg h0).trans ?_
    by_cases h1 : w.val < 640
    · refine (dif_pos h1).trans ((hq ⟨w.val - 128, by omega⟩ k (by dsimp only; omega)).trans (at3 A _ _ _ _ _ _ rfl ?_ rfl))
      dsimp only
      omega
    · refine (dif_neg h1).trans ((hn ⟨w.val - 640, by omega⟩ k (by dsimp only; omega)).trans (at3 A _ _ _ _ _ _ rfl ?_ rfl))
      dsimp only
      omega

theorem win_sees (x : FVec Ideal S4x4096x256 .f32) (b : Fin 4) (n : Fin 32) (q : Fin 128) (s : Fin 384) (g : Fin 2) (d : Fin 128) (h : sees n q s)
    (h' : n.val * 128 + s.val - 128 < 4096) : win x b n s g d = x (ix3 b ⟨n.val * 128 + s.val - 128, h'⟩ ⟨g.val * 128 + d.val, by omega⟩) :=
  dif_pos ⟨h.2.1, h'⟩

section

variable (x0 : FVec Ideal S4x4096x1024 .f32) (x1 : FVec Ideal S4x4096x256 .f32) (b : Fin 4) (n : Fin 32) (g : Fin 2) (e : Fin 4) (q : Fin 128) (s : Fin 384)

theorem logit_off (h : ¬ sees n q s) : logit x0 x1 b n g e q s = ⊥ := (v71_at x0 x1 b n g e q s).2 h

theorem logit_on (h : sees n q s) (h' : n.val * 128 + s.val - 128 < 4096) (qv kv : Fin 128 → ℝ)
    (hq : ∀ d : Fin 128, x0 (ix3 b ⟨n.val * 128 + q.val, by omega⟩ ⟨g.val * 512 + e.val * 128 + d.val, by omega⟩) = qv d)
    (hk : ∀ d : Fin 128, x1 (ix3 b ⟨n.val * 128 + s.val - 128, h'⟩ ⟨g.val * 128 + d.val, by omega⟩) = kv d) :
    logit x0 x1 b n g e q s = (((∑ d, kv d * qv d) * (√128)⁻¹ + -(1 / 2) ^ (g.val * 4 + e.val + 1) * (AttnSoft.dist q s : ℝ) : ℝ) : EReal) := by
  refine ((v71_at x0 x1 b n g e q s).1 h).trans ?_
  have e' : (∑ d, win x1 b n s g d * x0 (ix3 b ⟨n.val * 128 + q.val, by omega⟩ ⟨g.val * 512 + e.val * 128 + d.val, by omega⟩)) = ((∑ d, kv d * qv d : ℝ) : EReal) := by
    rw [← coe_sum]
    refine Finset.sum_congr rfl fun d _ => ?_
    rw [win_sees x1 b n q s g _ h h', hq, hk, EReal.coe_mul]
  rw [v24_at, v66_at, root, e', ← EReal.coe_mul, ← EReal.coe_add]

end

variable (m : (ℓ : Loc nD τ sig) → Buf (Elt Ideal) ℓ) (c : Dev nD)

theorem keys_at (t : Fin cfg0.N) (b : Fin 4) (hb : b.val = t.val / 8) (w : Fin 768) (k : Fin 256) (h : 128 ≤ t.val % 8 * 512 + w.val)
    (h' : t.val % 8 * 512 + w.val - 128 < 4096) : stack (iblk m c 2 t) (iblk m c 3 t) (iblk m c 4 t) (ix2 w k) = a1 m c (ix3 b ⟨t.val % 8 * 512 + w.val - 128, h'⟩ k) :=
  stack_at _ _ _ (a1 m c) b (t.val % 8) (Nat.mod_lt _ (by norm_num))
    (fun a k h => (blk2 m c t a k (hb ▸ b.isLt) h).trans (at3 (a1 m c) _ b _ _ _ _ hb.symm rfl rfl))
    (fun a k h => (blk3 m c t a k (hb ▸ b.isLt) h).trans (at3 (a1 m c) _ b _ _ _ _ hb.symm rfl rfl))
    (fun a k h => (blk4 m c t a k (hb ▸ b.isLt) h).trans (at3 (a1 m c) _ b _ _ _ _ hb.symm rfl rfl)) w k h h'

theorem vals_at (t : Fin cfg0.N) (b : Fin 4) (hb : b.val = t.val / 8) (w : Fin 768) (k : Fin 256) (h : 128 ≤ t.val % 8 * 512 + w.val)
    (h' : t.val % 8 * 512 + w.val - 128 < 4096) : stack (iblk m c 5 t) (iblk m c 6 t) (iblk m c 7 t) (ix2 w k) = a2 m c (ix3 b ⟨t.val % 8 * 512 + w.val - 128, h'⟩ k) :=
  stack_at _ _ _ (a2 m c) b (t.val % 8) (Nat.mod_lt _ (by norm_num))
    (fun a k h => (blk5 m c t a k (hb ▸ b.isLt) h).trans (at3 (a2 m c) _ b _ _ _ _ hb.symm rfl rfl))
    (fun a k h => (blk6 m c t a k (hb ▸ b.isLt) h).trans (at3 (a2 m c) _ b _ _ _ _ hb.symm rfl rfl))
    (fun a k h => (blk7 m c t a k (hb ▸ b.isLt) h).trans (at3 (a2 m c) _ b _ _ _ _ hb.symm rfl rfl)) w k h h'

theorem real_eq (q k : Fin 128 → ℝ) (κ r p D : ℝ) :
    (∑ d, (q d : EReal) * ((κ * r : ℝ) : EReal) * (k d : EReal)) + ((-(p * r) * D : ℝ) : EReal) = (((∑ d, k d * q d) * κ + -p * D : ℝ) : EReal) * (r : EReal) := by
  rw [show (∑ d, (q d : EReal) * ((κ * r : ℝ) : EReal) * (k d : EReal)) = ((∑ d, q d * (κ * r) * k d : ℝ) : EReal) by rw [← coe_sum]; simp only [EReal.coe_mul],
    ← EReal.coe_add, ← EReal.coe_mul]
  refine congrArg Real.toEReal ?_
  rw [add_mul, Finset.sum_mul, Finset.sum_mul]
  refine congrArg₂ (· + ·) (Finset.sum_congr rfl fun d _ => by ring) (by ring)

theorem head_eq (hq : ∀ i, ∃ r : ℝ, a0 m c i = r) (hk : ∀ i, ∃ r : ℝ, a1 m c i = r) (hσ : ∀ i, ∃ r : ℝ, a9 m c i = r)
    (t : Fin cfg0.N) (w : S512x1024.Idx) (b : Fin 4) (n : Fin 32) (g : Fin 2) (e : Fin 4) (q dd : Fin 128)
    (hb : b.val = t.val / 8) (hn : n.val = 4 * (t.val % 8) + (w 0).val / 128) (hg : g.val = (w 1).val / 512) (he : e.val = (w 1).val / 128 % 4)
    (hqq : q.val = (w 0).val % 128) (hdd : dd.val = (w 1).val % 128) :
    att (4 * (t.val % 8)) (X0_1 m c t) (stack (iblk m c 2 t) (iblk m c 3 t) (iblk m c 4 t)) (stack (iblk m c 5 t) (iblk m c 6 t) (iblk m c 7 t)) table (iblk m c 0 t) w
      = soft (logit (a0 m c) (a1 m c) b n g e q) (fun s => win (a2 m c) b n s g dd) (sink (a9 m c) g e) := by
  have hw0 : (w 0).val < 512 := (w 0).isLt
  have hw1 : (w 1).val < 1024 := (w 1).isLt
  have hb' : t.val / 8 < 4 := by omega
  have hlog : 0 < Real.log 2 := Real.log_pos (by norm_num)
  choose rq hrq using hq
  choose rk hrk using hk
  choose rσ hrσ using hσ
  have hsk : sink (a9 m c) g e = (rσ (ix1 ⟨g.val * 4 + e.val, by omega⟩) : ℝ) := hrσ _
  have hin : ∀ s : Fin 384, sees n q s → n.val * 128 + s.val - 128 < 4096 := fun s h => by have := h.2; omega
  have hon := fun (s : Fin 384) (h : sees n q s) => logit_on (a0 m c) (a1 m c) b n g e q s h (hin s h) (fun d => rq _) (fun d => rk _) (fun d => hrq _) (fun d => hrk _)
  have hl : ∀ s, logit (a0 m c) (a1 m c) b n g e q s ≠ ⊤ := by
    intro s
    by_cases h : sees n q s
    · rw [hon s h]; exact EReal.coe_ne_top _
    · rw [logit_off _ _ _ _ _ _ _ _ h]; exact bot_ne_top
  rw [hsk]
  refine Eq.trans (soft2_eq (logit (a0 m c) (a1 m c) b n g e q) _ _ (rσ (ix1 ⟨g.val * 4 + e.val, by omega⟩)) _ hl (fun s => ?_) ?_) (soft_congr _ _ _ _ hl fun s hs => ?_)
  · by_cases h : sees n q s
    · rw [hon s h]
      have hnear : near (variant (4 * (t.val % 8) + (w 0).val / 128)) ((w 0).val % 128) s.val := by
        have := (near_sees n n.isLt q s).2 h
        rwa [hn, hqq] at this
      have hT : table (ix4 (variant (4 * (t.val % 8) + (w 0).val / 128)) ⟨_, head_lt w⟩ ⟨(w 0).val % 128, Nat.mod_lt _ (by norm_num)⟩ s)
          = ((-((1 / 2) ^ (g.val * 4 + e.val + 1) * (Real.log 2)⁻¹) * (AttnSoft.dist q s : ℝ) : ℝ) : EReal) := by
        refine (if_pos hnear).trans ?_
        rw [EReal.coe_mul]
        refine congrArg₂ (· * ·) ((slope_eq _).trans ?_) ?_
        · show ((-((1 / 2) ^ ((w 1).val / 128 + 1) * (Real.log 2)⁻¹) : ℝ) : EReal) = _
          rw [show (w 1).val / 128 = g.val * 4 + e.val by omega]
        · show ((AttnSoft.dist ((w 0).val % 128) s.val : ℝ) : EReal) = _
          rw [hqq]
      have hsee := h.2
      have hQ := fun d : Fin 128 => (blk1 m c t (w 0) ⟨_, lane_lt w d⟩ hb' (by omega)).trans
        (congrArg₂ (fun x y : EReal => x * y) ((at3 (a0 m c) _ b _ ⟨n.val * 128 + q.val, by omega⟩ _ ⟨g.val * 512 + e.val * 128 + d.val, by omega⟩ hb.symm
          (by dsimp only; omega) (by dsimp only; omega)).trans (hrq _)) scale_val)
      have hK := fun d : Fin 128 => (keys_at m c t b hb ⟨_, row_lt w s⟩ ⟨_, col_lt w d⟩ (by dsimp only; omega) (by dsimp only; omega)).trans
        ((at3 (a1 m c) b b _ ⟨n.val * 128 + s.val - 128, hin s h⟩ _ ⟨g.val * 128 + d.val, by omega⟩ rfl (by dsimp only; omega) (by dsimp only; omega)).trans (hrk _))
      exact (congrArg₂ (fun x y : EReal => x + y) (Finset.sum_congr rfl fun d _ => congrArg₂ (fun x y : EReal => x * y) (hQ d) (hK d)) hT).trans (real_eq _ _ _ _ _ _)
    · rw [logit_off _ _ _ _ _ _ _ _ h, EReal.bot_mul_coe_of_pos (inv_pos.2 hlog)]
      have hnear : ¬ near (variant (4 * (t.val % 8) + (w 0).val / 128)) ((w 0).val % 128) s.val := by
        have := mt (near_sees n n.isLt q s).1 h
        rwa [hn, hqq] at this
      exact (congrArg (_ + ·) (if_neg hnear)).trans (EReal.add_bot _)
  · refine congrArg₂ (· * ·) ((blk0 m c t _).trans ((congrArg (fun i => a9 m c (ix1 i)) (Fin.ext ?_)).trans (hrσ _))) rfl
    show (w 1).val / 128 = g.val * 4 + e.val
    omega
  · have h : sees n q s := by
      by_contra h
      exact hs (logit_off _ _ _ _ _ _ _ _ h)
    refine Eq.trans ?_ (win_sees (a2 m c) b n q s g dd h (hin s h)).symm
    have hsee := h.2
    exact (vals_at m c t b hb _ _ (by dsimp only; omega) (by dsimp only; omega)).trans
      (at3 (a2 m c) b b _ _ _ _ rfl (by dsimp only; omega) (by dsimp only; omega))

end Cert.KernelIdeal.Val

end
-- ==== Proof.AttnFirst.lean ====
/- The windowed attention's output at a first point. -/
module

public import proofs.«01_k».proof.Proof.AttnTbl

@[expose] public section

set_option maxRecDepth 16384

noncomputable section

namespace Cert.KernelIdeal.Pay

open Cert.KernelIdeal Cert.KernelIdeal.Gen Cert.KernelIdeal.Value
open Idealize.ShloMosaic Idealize.ShloMosaic.TcCoe Idealize.SL.Sem

set_option maxHeartbeats 40000000 in
theorem out_A (m : (ℓ : Loc nD τ sig) → Buf (Elt Ideal) ℓ) (c : Dev nD) (t : Fin cfg0.N) (h0 : t.val % 32 = 0) (y : S1x512x2048.Idx) :
    (outsAt0 m c t.val t.isLt).1 y = mixed (iblk m c 8 t) (iblk m c 9 t) (iblk m c 11 t)
      (att (4 * (t.val % 8)) (X0_1 m c t) (stack (iblk m c 2 t) (iblk m c 3 t) (iblk m c 4 t)) (stack (iblk m c 5 t) (iblk m c 6 t) (iblk m c 7 t)) table (iblk m c 0 t))
      (iblk m c 10 t) y := by
  generalize hA' : att (4 * (t.val % 8)) (X0_1 m c t) (stack (iblk m c 2 t) (iblk m c 3 t) (iblk m c 4 t)) (stack (iblk m c 5 t) (iblk m c 6 t) (iblk m c 7 t)) table
    (iblk m c 0 t) = A
  rw [outsAt0_A m c t h0]
  refine (fun (hA : ∀ w, View.canon (Val := Elt Ideal) (s := S512x1024) (e := .bf16) ?L w = A w) => ?main) ?hA
  case main =>
    frame_out
    refine View.canon_append_of_piecesOf (Val := Elt Ideal) (s := S1x512x2048) (e := .f32) (mixed (iblk m c 8 t) (iblk m c 9 t) (iblk m c 11 t) A (iblk m c 10 t)) ?L' (?p0 :: ?p1 :: ?p2 :: ?p3 :: []) ?_ y ?_
    · refine ⟨fun (x : S1x512x512.Idx) => ?_, fun (x : S1x512x512.Idx) => ?_, fun (x : S1x512x512.Idx) => ?_, fun (x : S1x512x512.Idx) => ?_, trivial⟩
      all_goals
        refine (mix _ _ _ x).trans ?_
        refine congrArg₂ (· * ·) ?_ (Finset.sum_congr rfl fun k _ => congrArg₂ (· * ·) ?_ ?_)
        rotate_left
        · rw [View.readCov_eq_canon']
          refine (hA _).trans (congrArg A (funext fun a => Fin.ext ?_))
          refine (Rect.idx_unit_val _ _ _ _ _).trans ?_
          match a with
          | 0 => exact (Rect.idx_unit_val _ _ _ _ _).symm
          | 1 => exact Nat.zero_add _
        · refine congrArg (iblk m c 10 t) (funext fun a => Fin.ext ?_)
          refine (Rect.idx_unit_val _ _ _ _ _).trans ?_
          match a with
          | 0 => exact Nat.zero_add _
          | 1 => exact (Rect.idx_unit_val _ _ _ _ _).symm
        · repeat refine (congrFun (View.readCov_skip _ _ _ _ _ (by rfl)) _).trans ?_
          rw [View.readCov_eq_canon']
          have hx : (x 2 : ℕ) < 512 := (x 2).isLt
          refine at3 _ (gate _ _ _) _ _ ?_ ?_ ?_
          · exact (Rect.idx_unit_val _ _ _ _ _).trans (Rect.idx_unit_val _ _ _ _ _).symm
          · exact (Rect.idx_unit_val _ _ _ _ _).trans (Rect.idx_unit_val _ _ _ _ _).symm
          intro w hw1 hw2
          replace hw1 := hw1.trans (Rect.idx_unit_val _ _ _ _ _)
          replace hw2 := hw2.trans (Rect.idx_unit_val _ _ _ _ _)
          canon_tiles z hz using (by
            by_cases hh : (x 2 : ℕ) < 256
            · refine ⟨_, .tail _ (.head _), ?_⟩; rw [Rect.mem_set_unit]; exact (low w _ _ hw2 hh)
            · refine ⟨_, .head _, ?_⟩; rw [Rect.mem_set_unit]; exact (high w _ _ _ hw2 (Nat.le_of_not_lt hh) hx rfl))
          all_goals
            refine glu _ _ _ _ _ z w ?_ (fun k => ?_) ?_
            · exact hz1
            · refine congrArg (iblk m c 9 t) (funext fun a => Fin.ext ?_)
              refine (Rect.idx_unit_val _ _ _ _ _).trans ?_
              match a with
              | 0 => exact Nat.zero_add _
              | 1 => exact (hz2.trans (by first | rfl | exact (Nat.zero_add _).symm)).symm
            · refine congrArg (iblk m c 11 t) (funext fun a => Fin.ext ?_)
              refine (Rect.idx_unit_val _ _ _ _ _).trans ?_
              match a with
              | 0 => exact Nat.zero_add _
              | 1 => exact (hz2.trans (by first | rfl | exact (Nat.zero_add _).symm)).symm
    · have h2 : (y 2 : ℕ) < 2048 := (y 2).isLt
      rcases (by omega : (1536 ≤ (y 2 : ℕ) ∧ (y 2 : ℕ) < 1536 + 512) ∨ (1024 ≤ (y 2 : ℕ) ∧ (y 2 : ℕ) < 1024 + 512) ∨ (512 ≤ (y 2 : ℕ) ∧ (y 2 : ℕ) < 512 + 512)
          ∨ (0 ≤ (y 2 : ℕ) ∧ (y 2 : ℕ) < 0 + 512)) with h | h | h | h
      · refine ⟨_, .head _, ?_⟩; rw [Rect.mem_set_unit]; exact (band y _ h.1 h.2)
      · refine ⟨_, .tail _ (.head _), ?_⟩; rw [Rect.mem_set_unit]; exact (band y _ h.1 h.2)
      · refine ⟨_, .tail _ (.tail _ (.head _)), ?_⟩; rw [Rect.mem_set_unit]; exact (band y _ h.1 h.2)
      · refine ⟨_, .tail _ (.tail _ (.tail _ (.head _))), ?_⟩; rw [Rect.mem_set_unit]; exact (band y _ h.1 h.2)
  case hA =>
    subst hA'
    intro w
    refine (fun (hK : ∀ w, View.canon (Val := Elt Ideal) (s := S768x256) (e := .bf16) ?LK w = stack (iblk m c 2 t) (iblk m c 3 t) (iblk m c 4 t) w) => ?mK) ?hK
    case mK =>
      refine (fun (hV : ∀ w, View.canon (Val := Elt Ideal) (s := S768x256) (e := .bf16) ?LV w = stack (iblk m c 5 t) (iblk m c 6 t) (iblk m c 7 t) w) => ?mV) ?hV
      case mV =>
        refine (fun (hT : ∀ w, View.canon (Val := Elt Ideal) (s := S3x8x128x384) (e := .f32) ?LT w = table w) => ?mT) ?hT
        case mT =>
          canon_tiles x h
          case' piece0 | piece4 | piece8 | piece12 | piece16 | piece20 | piece24 | piece28 => refine (tile3 _ _ _ _ _ _ _ _ _ _ _ _ _ _ x).trans ?_
          case' piece1 | piece5 | piece9 | piece13 | piece17 | piece21 | piece25 | piece29 => refine (tile2 _ _ _ _ _ _ _ _ _ _ _ _ _ _ x).trans ?_
          case' piece2 | piece6 | piece10 | piece14 | piece18 | piece22 | piece26 | piece30 => refine (tile1 _ _ _ _ _ _ _ _ _ _ _ _ _ _ x).trans ?_
          case' piece3 | piece7 | piece11 | piece15 | piece19 | piece23 | piece27 | piece31 => refine (tile0 _ _ _ _ _ _ _ _ _ _ _ _ _ _ x).trans ?_
          all_goals
            refine tile_att _ _ _ _ _ _ _ _ _ _ _ x w _ _ (by first | exact h0 | exact h0.trans (Nat.zero_add _).symm)
              (by first | exact h1 | exact h1.trans (Nat.zero_add _).symm) ?_ ?_ (fun d i e1 e2 => ?_) (fun s d i e0 e1 => ?_) (fun s i e0 e1 => ?_)
              (fun s i e0 e1 e2 e3 => ?_) (fun i e0 => ?_)
            · rfl
            · rfl
            · refine congrArg (X0_1 m c t) (funext fun a => Fin.ext ?_)
              refine (Rect.idx_unit_val _ _ _ _ _).trans ?_
              match a with
              | 0 => exact (Nat.lt_one_iff.1 (i 0).isLt).symm
              | 1 => exact e1.symm
              | 2 => exact e2.symm
            · rw [View.readCov_eq_canon']
              refine (hK _).trans (congrArg _ (funext fun a => Fin.ext ?_))
              refine (Rect.idx_unit_val _ _ _ _ _).trans ?_
              match a with
              | 0 => exact e0.symm
              | 1 => exact e1.symm
            · rw [View.readCov_eq_canon']
              refine (hV _).trans (congrArg _ (funext fun a => Fin.ext ?_))
              refine (Rect.idx_unit_val _ _ _ _ _).trans ?_
              match a with
              | 0 => exact e0.symm
              | 1 => exact e1.symm
            · refine (hT _).trans (congrArg table (funext fun a => Fin.ext ?_))
              refine (Rect.idx_unit_val _ _ _ _ _).trans ?_
              match a with
              | 0 => exact (Nat.add_zero _).trans ((off_at t _ (by decide)).trans (congrArg Fin.val e0).symm)
              | 1 => exact e1.symm
              | 2 => exact (Nat.zero_add _).trans e2.symm
              | 3 => exact (Nat.zero_add _).trans e3.symm
            · refine congrArg (iblk m c 0 t) (funext fun a => Fin.ext ?_)
              refine (Rect.idx_unit_val _ _ _ _ _).trans ?_
              match a with
              | 0 => exact e0.symm
        case hT =>
          intro w
          have e := congrFun (table_A m c t h0) w
          revert e
          rw [outsAt0_A m c t h0]
          frame_out
          exact id
      case hV =>
        intro w
        canon_tiles x h using (by
          rcases (by omega : (w 0 : ℕ) < 0 + 128 ∨ (128 ≤ (w 0 : ℕ) ∧ (w 0 : ℕ) < 128 + 512) ∨ 640 ≤ (w 0 : ℕ)) with h | h | h
          · refine ⟨_, .tail _ (.tail _ (.head _)), ?_⟩; rw [Rect.mem_set_unit]; exact rows w _ _ (Nat.zero_le _) h
          · refine ⟨_, .tail _ (.head _), ?_⟩; rw [Rect.mem_set_unit]; exact rows w _ _ h.1 h.2
          · refine ⟨_, .head _, ?_⟩; rw [Rect.mem_set_unit]; exact rows w _ _ h (w 0).isLt)
        · exact stack_next _ _ _ x w h0 h1
        · exact stack_mid _ _ _ x w h0 h1
        · exact stack_prev _ _ _ x w h0 h1
    case hK =>
      intro w
      canon_tiles x h using (by
        rcases (by omega : (w 0 : ℕ) < 0 + 128 ∨ (128 ≤ (w 0 : ℕ) ∧ (w 0 : ℕ) < 128 + 512) ∨ 640 ≤ (w 0 : ℕ)) with h | h | h
        · refine ⟨_, .tail _ (.tail _ (.head _)), ?_⟩; rw [Rect.mem_set_unit]; exact rows w _ _ (Nat.zero_le _) h
        · refine ⟨_, .tail _ (.head _), ?_⟩; rw [Rect.mem_set_unit]; exact rows w _ _ h.1 h.2
        · refine ⟨_, .head _, ?_⟩; rw [Rect.mem_set_unit]; exact rows w _ _ h (w 0).isLt)
      · exact stack_next _ _ _ x w h0 h1
      · exact stack_mid _ _ _ x w h0 h1
      · exact stack_prev _ _ _ x w h0 h1

end Cert.KernelIdeal.Pay
end
-- ==== Proof.AttnVal.lean ====
/- The attention kernel's output is its reference's, where the queries, the keys and the sinks are finite. -/
module

public import proofs.«01_k».proof.Proof.AttnHead
public import proofs.«01_k».proof.Proof.AttnFirst
public import proofs.«01_k».proof.Proof.Gen.Pre_finite
public import Idealize.ShloMosaic.Lib.Claim

@[expose] public section

set_option maxRecDepth 16384

noncomputable section

namespace Cert.KernelIdeal.Val

open Cert.KernelIdeal Cert.KernelIdeal.Gen Cert.KernelIdeal.Value Cert.KernelIdeal.Pay
open Idealize.ShloMosaic Idealize.ShloMosaic.TcCoe Idealize.SL.Sem AttnSoft
open Cert.ReferenceIdeal.At (attended v103_at)

theorem inf_bits : Ideal.ofBits .f32 0x7F800000#32 = ⊤ := by
  simp [Ideal.ofBits, Ideal.ieee]

/-- An entry whose magnitude is below the largest is a real. -/
theorem real_of {x : EReal} (h : Ideal.cmp .olt (max x (-x)) (Ideal.ofBits .f32 0x7F800000#32) = 1#1) : ∃ r : ℝ, x = r := by
  rw [inf_bits] at h
  induction x with
  | bot => simp [Ideal.cmp] at h
  | top => simp [Ideal.cmp] at h
  | coe r => exact ⟨r, rfl⟩

theorem keep (m : (ℓ : Loc nD τ sig) → Buf (Elt Ideal) ℓ) (c : Dev nD) (t : Fin cfg0.N) (h0 : ¬ t.val % 32 = 0) :
    (outsAt0 m c t.val t.isLt).2 = (outsAt0 m c (t.val - 1) (Nat.lt_of_le_of_lt (Nat.sub_le _ _) t.isLt)).2 := by
  rw [outsAt0_B m c t h0]
  rfl

variable (m : (ℓ : Loc nD τ sig) → Buf (Elt Ideal) ℓ) (c : Dev nD)

/-- Every point finds and leaves the first point's table. -/
theorem table_all (n : ℕ) : ∀ hn : n < cfg0.N, (outsAt0 m c n hn).2 = table := by
  induction n with
  | zero => exact fun hn => table_A m c ⟨0, hn⟩ rfl
  | succ n ih =>
    intro hn
    have hN := lt_of_lt_of_eq hn (show cfg0.N = 32 from N_0)
    exact (keep m c ⟨n + 1, hn⟩ (by dsimp only; omega)).trans (ih _)

theorem out_all (t : Fin cfg0.N) (y : S1x512x2048.Idx) :
    (outsAt0 m c t.val t.isLt).1 y = mixed (iblk m c 8 t) (iblk m c 9 t) (iblk m c 11 t)
      (att (4 * (t.val % 8)) (X0_1 m c t) (stack (iblk m c 2 t) (iblk m c 3 t) (iblk m c 4 t)) (stack (iblk m c 5 t) (iblk m c 6 t) (iblk m c 7 t)) table (iblk m c 0 t))
      (iblk m c 10 t) y := by
  by_cases h0 : t.val % 32 = 0
  · exact out_A m c t h0 y
  · exact out_B m c t h0 table (table_all m c _ _) y

theorem tlt (t : Fin cfg0.N) : t.val / 8 < 4 := by
  have hN := lt_of_lt_of_eq t.isLt (show cfg0.N = 32 from N_0)
  omega

theorem rlt (t : Fin cfg0.N) (a : Fin 512) : t.val % 8 * 512 + a.val < 4096 := by omega

section

variable (hq : ∀ i, ∃ r : ℝ, a0 m c i = r) (hk : ∀ i, ∃ r : ℝ, a1 m c i = r) (hσ : ∀ i, ∃ r : ℝ, a9 m c i = r)

include hq hk hσ

theorem att_eq (t : Fin cfg0.N) (a : Fin 512) (k : Fin 1024) :
    att (4 * (t.val % 8)) (X0_1 m c t) (stack (iblk m c 2 t) (iblk m c 3 t) (iblk m c 4 t)) (stack (iblk m c 5 t) (iblk m c 6 t) (iblk m c 7 t)) table (iblk m c 0 t) (ix2 a k)
      = attended (a0 m c) (a1 m c) (a2 m c) (a9 m c) ⟨t.val / 8, tlt t⟩ ⟨t.val % 8 * 512 + a.val, rlt t a⟩ k := by
  refine head_eq m c hq hk hσ t (ix2 a k) _ _ _ _ _ _ rfl ?_ rfl rfl ?_ rfl
  · show (t.val % 8 * 512 + a.val) / 128 = 4 * (t.val % 8) + a.val / 128
    omega
  · show (t.val % 8 * 512 + a.val) % 128 = a.val % 128
    omega

/-- What a point leaves in the output is the reference's at the block's rows. -/
theorem point (t : Fin cfg0.N) (a : Fin 512) (b : Fin 2048) :
    (outsAt0 m c t.val t.isLt).1 (ix3 0 a b) = Cert.ReferenceIdeal.Read.val_main_v103 (F := Ideal) (a0 m c) (a1 m c) (a2 m c) (a6 m c) (a7 m c) (a8 m c) (a9 m c) (a10 m c)
      (ix3 ⟨t.val / 8, tlt t⟩ ⟨t.val % 8 * 512 + a.val, rlt t a⟩ b) := by
  refine (out_all m c t _).trans ?_
  rw [v103_at]
  unfold mixed gate
  refine congrArg₂ (fun x y : EReal => x * y) (congrArg Ideal.logistic (congrArg₂ (fun x y : EReal => x + y) ?_ (blk11 m c t b))) ?_
  · exact Finset.sum_congr rfl fun k _ => congrArg₂ (fun x y : EReal => x * y) (blk8 m c t a k (tlt t) (rlt t a)) (blk9 m c t k b)
  · exact Finset.sum_congr rfl fun k _ => congrArg₂ (fun x y : EReal => x * y) (att_eq m c hq hk hσ t a k) (blk10 m c t k b)

/-- The output array after the run is the reference's. -/
theorem final : G12 m c
    = Cert.ReferenceIdeal.Read.val_main_v103 (F := Ideal) (a0 m c) (a1 m c) (a2 m c) (a6 m c) (a7 m c) (a8 m c) (a9 m c) (a10 m c) := by
  funext i
  have h0 : (i 0).val < 4 := (i 0).isLt
  have h1 : (i 1).val < 4096 := (i 1).isLt
  have h2 : (i 2).val < 2048 := (i 2).isLt
  have hN : cfg0.N = 32 := N_0
  have hr : pt12Of i = 8 * (i 0).val + (i 1).val / 512 := by
    show 8 * ((i 0).val / 1 - 0) + 1 * ((i 1).val / 512 - 0) + 1 * ((i 2).val / 2048 - 0) = _
    omega
  have hp : pt12Of i < cfg0.N := by rw [hr]; omega
  unfold G12
  rw [dif_pos hp, ← outsAt0_sweep m c (pt12Of i) hp]
  have hl : loc12Of i = ix3 0 ⟨(i 1).val % 512, Nat.mod_lt _ (by decide)⟩ ⟨(i 2).val % 2048, Nat.mod_lt _ (by decide)⟩ := by
    funext a
    match a with
    | 0 => exact Fin.ext (Nat.mod_one _)
    | 1 => rfl
    | 2 => rfl
  rw [hl]
  refine (point m c hq hk hσ ⟨pt12Of i, hp⟩ _ _).trans (congrArg _ ?_)
  funext a
  apply Fin.ext
  match a with
  | 0 => show pt12Of i / 8 = (i 0).val; omega
  | 1 => show pt12Of i % 8 * 512 + (i 1).val % 512 = (i 1).val; omega
  | 2 => show (i 2).val % 2048 = (i 2).val; omega

end

end Cert.KernelIdeal.Val

end
-- ==== Proof.QkvPay.lean ====
/- What a point of the input projection leaves in its two output blocks, over its input blocks. -/
module

public import proofs.«01_k».proof.Proof.FfnSpec
public import proofs.«01_k».proof.Proof.Gen.QkvIdeal.Value
public import Idealize.ShloMosaic.Lib.Pipeline.ValueKit
public import Idealize.ShloMosaic.Lib.Pipeline.ReadBack

@[expose] public section

set_option maxRecDepth 16384

noncomputable section

namespace Cert.QkvIdeal.Pay

open Cert.QkvIdeal Cert.QkvIdeal.Gen Cert.QkvIdeal.Value Cert.FfnSpec
open Idealize.ShloMosaic Idealize.ShloMosaic.TcCoe Idealize.SL.Sem

variable (m : (ℓ : Loc nD τ sig) → Buf (Elt Ideal) ℓ)

/-- The normalized rows of a block `x0` with gains `x1`. -/
def NB (x0 : FVec Ideal S512x2048 .f32) (x1 : FVec Ideal S1x2048 .f32) : FVec Ideal S512x2048 .bf16 := fun y =>
  norm (fun k => x0 (ix2 (y 0) k)) (fun k => x1 (ix2 0 k)) (y 1)

theorem norm_at (X : FVec Ideal S512x2048 .f32) (G : FVec Ideal S1x2048 .f32) (y : S512x2048.Idx) :
    NB X G y = X (ix2 (y 0) (y 1)) * Ideal.rsqrt (Ideal.div (∑ l, X (ix2 (y 0) l) * X (ix2 (y 0) l)) (Ideal.ofBits .f32 0x45000000#32)
      + Ideal.ofBits .f32 0x358637BD#32) * G (ix2 0 (y 1)) := rfl

/-- The product of the normalized rows with the weights. -/
def PR (n : FVec Ideal S512x2048 .bf16) (x2 : FVec Ideal S2048x4608 .bf16) : FVec Ideal S512x4608 .bf16 := fun y =>
  ∑ k, n (ix2 (y 0) k) * x2 (ix2 k (y 1))

theorem out_u (c : Dev nD) (t : Fin cfg0.N) : (outsAt0 m c t).1 = NB (iblk m c 0 t) (iblk m c 1 t) := by
  simp only [outsAt0]
  funext y
  frame_out
  canon_tiles x h
  all_goals
    open_payloads
    pointwise [norm_at]
    blk_point []

theorem at_index {α : Type} (f : S512x2048.Idx → α) (i : S512x2048.Idx) (a b : ℕ) (v : α) (h0 : (i 0 : ℕ) = a) (h1 : (i 1 : ℕ) = b)
    (h : ∀ w : S512x2048.Idx, (w 0 : ℕ) = a → (w 1 : ℕ) = b → f w = v) : f i = v :=
  h i h0 h1

/-- The product of the normalized rows a tile of 256 rows is read from. -/
theorem tile (n : FVec Ideal S256x2048 .bf16) (N : FVec Ideal S512x2048 .bf16) (x2 : FVec Ideal S2048x4608 .bf16) (x : S256x4608.Idx)
    (y : S512x4608.Idx) (h1 : (y 1 : ℕ) = x 1) (hn : ∀ k, n (ix2 (x 0) k) = N (ix2 (y 0) k)) : k0_pay20 n x2 x = PR N x2 y := by
  have e : x 1 = y 1 := Fin.ext h1.symm
  pointwise [k0_pay20, PR, hn, e]

set_option maxHeartbeats 4000000 in
theorem out_p (c : Dev nD) (t : Fin cfg0.N) : (outsAt0 m c t).2.1 = PR (NB (iblk m c 0 t) (iblk m c 1 t)) (iblk m c 2 t) := by
  simp only [outsAt0]
  funext y
  frame_out
  canon_tiles x h
  all_goals
    refine tile _ _ _ x y h1 fun k => ?_
    rw [View.readCov_eq_canon']
    have hx : (x 0 : ℕ) < 256 := (x 0).isLt
    have hk : (k : ℕ) < 2048 := k.isLt
    refine at_index _ _ (y 0) k _ ?_ ?_ fun w hw0 hw1 => ?_
    · exact (Rect.idx_unit_val _ _ _ _ _).trans (by rw [h0]; first | rfl | exact Nat.zero_add _)
    · exact (Rect.idx_unit_val _ _ _ _ _).trans (Nat.zero_add _)
    canon_tiles z hz using (by
      simp only [List.mem_cons, exists_eq_or_imp, Rect.mem_set_unit, Fin.forall_fin_two]
      simp only [Matrix.cons_val_zero, Matrix.cons_val_one, Nat.zero_add, Nat.zero_le, true_and, hw1, hk, and_true]
      clear hk
      simp only [List.not_mem_nil, false_and, exists_false, or_false]
      omega)
    all_goals
      open_payloads
      pointwise [norm_at]
      blk_point []

/-- Each of the last five outputs is its weights' slab. -/
theorem out_w (c : Dev nD) (t : Fin cfg0.N) : (∀ y, (outsAt0 m c t).2.2.1 y = iblk m c 3 t y) ∧ (∀ y, (outsAt0 m c t).2.2.2.1 y = iblk m c 4 t y)
    ∧ (∀ y, (outsAt0 m c t).2.2.2.2.1 y = iblk m c 5 t y) ∧ (∀ y, (outsAt0 m c t).2.2.2.2.2.1 y = iblk m c 6 t y)
    ∧ (∀ y, (outsAt0 m c t).2.2.2.2.2.2 y = iblk m c 7 t y) := by
  simp only [outsAt0]
  refine ⟨fun y => ?_, fun y => ?_, fun y => ?_, fun y => ?_, fun y => ?_⟩
  all_goals
    frame_out
    rfl

end Cert.QkvIdeal.Pay
end
-- ==== Proof.QkvRef.lean ====
/- The reference of the input projection, read at an index. -/
module

public import proofs.«01_k».proof.Proof.FfnSpec
public import proofs.«01_k».proof.Proof.Gen.QkvRefIdeal.Read

@[expose] public section

set_option maxRecDepth 16384

noncomputable section

namespace Cert.QkvRefIdeal.At

open Cert.QkvRefIdeal Cert.QkvRefIdeal.Gen Cert.QkvRefIdeal.Read Cert.FfnSpec
open Idealize.ShloMosaic Idealize.ShloMosaic.TcCoe Idealize.SL.Sem

variable (x0 : FVec Ideal S4x4096x2048 .f32) (x1 : FVec Ideal S2048 .f32) (x2 : FVec Ideal S2048x8704 .f32)

/-- Row `r` of the flattened tokens. -/
def row (r : Fin 16384) (k : Fin 2048) : EReal := val_main_v0 (F := Ideal) x0 (ix2 r k)

/-- The normalized row `r` of the tokens. -/
def nrow (r : Fin 16384) (k : Fin 2048) : EReal := norm (row x0 r) (fun k => x1 (ix1 k)) k

theorem v13_at (r : Fin 16384) (k : Fin 2048) : val_main_v13 (F := Ideal) x0 x1 (ix2 r k) = nrow x0 x1 r k := by
  pointwise [val_main_v13, val_main_v12, val_main_v11, val_main_v10, val_main_v9, val_main_v8, val_main_v7, val_main_v6, val_main_v5, val_main_v4, val_main_v3, val_main_v2, val_main_v1, val_main_cst, val_main_cst_0, val_main_cst_1]
  rfl

theorem v14_at (r : Fin 16384) (k : Fin 2048) : val_main_v14 (F := Ideal) x0 x1 (ix2 r k) = nrow x0 x1 r k := v13_at x0 x1 r k

theorem v17_at (r : Fin 16384) (c : Fin 4608) :
    val_main_v17 (F := Ideal) x0 x1 x2 (ix2 r c) = dot (nrow x0 x1 r) (fun k => x2 (ix2 k ⟨c.val, by omega⟩)) := by
  have e := fun k => v13_at x0 x1 r k
  unfold dot
  pointwise [val_main_v17, val_main_v16, val_main_v15]
  simp only [e]

end Cert.QkvRefIdeal.At

end
-- ==== Proof.QkvVal.lean ====
/- The input projection's arrays are its reference's: every block is some point's, and each point's blocks are the reference's. -/
module

public import proofs.«01_k».proof.Proof.QkvPay
public import proofs.«01_k».proof.Proof.QkvRef
public import Idealize.ShloMosaic.Lib.Claim

@[expose] public section

set_option maxRecDepth 16384

noncomputable section

namespace Cert.QkvIdeal.Val

open Cert.QkvIdeal Cert.QkvIdeal.Gen Cert.QkvIdeal.Value Cert.QkvIdeal.Pay
open Idealize.ShloMosaic Idealize.ShloMosaic.TcCoe Idealize.SL.Sem

variable (m : (ℓ : Loc nD τ sig) → Buf (Elt Ideal) ℓ) (c : Dev nD)

/-- The arguments as launched. -/
abbrev a0 : FVec Ideal S4x4096x2048 .f32 := m ((c : Thread nD τ).loc main_arg0)
abbrev a1 : FVec Ideal S2048 .f32 := m ((c : Thread nD τ).loc main_arg1)
abbrev a2 : FVec Ideal S2048x8704 .f32 := m ((c : Thread nD τ).loc main_arg2)
abbrev a3 : FVec Ideal S2048x11264 .f32 := m ((c : Thread nD τ).loc main_arg3)
abbrev a4 : FVec Ideal S5632x2048 .f32 := m ((c : Thread nD τ).loc main_arg4)
abbrev a5 : FVec Ideal S2048x2048 .f32 := m ((c : Thread nD τ).loc main_arg5)
abbrev a6 : FVec Ideal S1024x2048 .f32 := m ((c : Thread nD τ).loc main_arg6)
abbrev a7 : FVec Ideal S1024x2048 .f32 := m ((c : Thread nD τ).loc main_arg7)

theorem idx : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0) :=
  (by decide +kernel : ∀ t : Fin grid0.N, _)

/-- Every output's blocks are its array's rows in order. -/
theorem odx : ∀ t : Fin cfg0.N, (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0) :=
  (by decide +kernel : ∀ t : Fin grid0.N, _)

theorem blk0 (t : Fin cfg0.N) (a : Fin 512) (k : Fin 2048) (h : 512 * t.val + a.val < 16384) :
    iblk m c 0 t (ix2 a k) = Cert.QkvRefIdeal.At.row (a0 m c) ⟨512 * t.val + a.val, h⟩ k := by
  pointwise [Cert.QkvRefIdeal.At.row, Cert.QkvRefIdeal.Read.val_main_v0]
  blk_point [iblk, V, idx t]

theorem blk1 (t : Fin cfg0.N) (k : Fin 2048) : iblk m c 1 t (ix2 0 k) = a1 m c (ix1 k) := by
  blk_point [iblk, V, idx t]

theorem blk2 (t : Fin cfg0.N) (k : Fin 2048) (l : Fin 4608) : iblk m c 2 t (ix2 k l) = a2 m c (ix2 k ⟨l.val, by omega⟩) := by
  blk_point [iblk, V, idx t]

theorem rlt (t : Fin cfg0.N) (a : Fin 512) : 512 * t.val + a.val < 16384 := by
  have h := lt_of_lt_of_eq t.isLt (show cfg0.N = 32 from N_0); omega

/-- The normalized rows a point leaves are the reference's rows. -/
theorem nb_eq (t : Fin cfg0.N) (a : Fin 512) (b : Fin 2048) :
    NB (iblk m c 0 t) (iblk m c 1 t) (ix2 a b) = Cert.QkvRefIdeal.At.nrow (a0 m c) (a1 m c) ⟨512 * t.val + a.val, rlt t a⟩ b :=
  congrFun (congrArg₂ FfnSpec.norm (funext fun k => blk0 m c t a k (rlt t a)) (funext fun k => blk1 m c t k)) b

theorem u_eq (t : Fin cfg0.N) (a : Fin 512) (b : Fin 2048) : NB (iblk m c 0 t) (iblk m c 1 t) (ix2 a b)
    = Cert.QkvRefIdeal.Read.val_main_v14 (F := Ideal) (a0 m c) (a1 m c) (ix2 ⟨512 * t.val + a.val, rlt t a⟩ b) :=
  (nb_eq m c t a b).trans (Cert.QkvRefIdeal.At.v14_at _ _ _ _).symm

theorem p_eq (t : Fin cfg0.N) (a : Fin 512) (b : Fin 4608) : PR (NB (iblk m c 0 t) (iblk m c 1 t)) (iblk m c 2 t) (ix2 a b)
    = Cert.QkvRefIdeal.Read.val_main_v17 (F := Ideal) (a0 m c) (a1 m c) (a2 m c) (ix2 ⟨512 * t.val + a.val, rlt t a⟩ b) := by
  rw [Cert.QkvRefIdeal.At.v17_at]
  exact Finset.sum_congr rfl fun k _ => congrArg₂ (fun x y : EReal => x * y) (nb_eq m c t a k) (blk2 m c t k b)

theorem cover8 (i : S16384x2048.Idx) : ∃ t : Fin cfg0.N, (cfg0.win 8).flush t = true ∧ i ∈ ((cfg0.win 8).blk t).view.set := by
  have h0 : (i 0).val < 16384 := (i 0).isLt
  have h1 : (i 1).val < 2048 := (i 1).isLt
  have hN : cfg0.N = 32 := N_0
  obtain ⟨t, ht⟩ : ∃ t : Fin cfg0.N, t.val = (i 0).val / 512 := ⟨⟨(i 0).val / 512, by omega⟩, rfl⟩
  obtain ⟨⟨q0, q1⟩, -⟩ := odx t
  refine ⟨t, flush0_8 t, ?_⟩
  show i ∈ ((View.whole main_v4_0).slice (win0_8.rect t)).set
  rw [View.set_slice_whole, Rect.mem_set_unit]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 2048 ≤ (i 1).val ∧ (i 1).val < win0_8.index t (1 : Fin 2) * 2048 + 2048; omega

theorem final8 : (dats m 0 c).arrAt 8 cfg0.N = Cert.QkvRefIdeal.Read.val_main_v14 (F := Ideal) (a0 m c) (a1 m c) := by
  refine (dats m 0 c).arrAt_eq_of_cover 8 _ (fun t _ => ?_) cover8
  rw [flushed8, out_u]
  funext y
  have hb0 : (((cfg0.win 8).blk t).view.emb y 0).val = win0_8.index t (0 : Fin 2) * 512 + 1 * (y 0).val := rfl
  have hb1 : (((cfg0.win 8).blk t).view.emb y 1).val = win0_8.index t (1 : Fin 2) * 2048 + 1 * (y 1).val := rfl
  obtain ⟨⟨q0, q1⟩, -⟩ := odx t
  rw [q0] at hb0
  rw [q1] at hb1
  refine (u_eq m c t (y 0) (y 1)).trans ?_
  show _ = Cert.QkvRefIdeal.Read.val_main_v14 (F := Ideal) (a0 m c) (a1 m c) (((cfg0.win 8).blk t).view.emb y)
  refine congrArg _ (funext fun a => Fin.ext ?_)
  match a with
  | ⟨0, _⟩ => exact Eq.trans (by show 512 * t.val + (y 0).val = t.val * 512 + 1 * (y 0).val; omega) hb0.symm
  | ⟨1, _⟩ => exact Eq.trans (by show (y 1).val = 0 * 2048 + 1 * (y 1).val; omega) hb1.symm

theorem cover9 (i : S16384x4608.Idx) : ∃ t : Fin cfg0.N, (cfg0.win 9).flush t = true ∧ i ∈ ((cfg0.win 9).blk t).view.set := by
  have h0 : (i 0).val < 16384 := (i 0).isLt
  have h1 : (i 1).val < 4608 := (i 1).isLt
  have hN : cfg0.N = 32 := N_0
  obtain ⟨t, ht⟩ : ∃ t : Fin cfg0.N, t.val = (i 0).val / 512 := ⟨⟨(i 0).val / 512, by omega⟩, rfl⟩
  obtain ⟨-, ⟨q0, q1⟩, -⟩ := odx t
  refine ⟨t, flush0_9 t, ?_⟩
  show i ∈ ((View.whole main_v4_1).slice (win0_9.rect t)).set
  rw [View.set_slice_whole, Rect.mem_set_unit]
  intro a
  match a with
  | ⟨0, _⟩ => show win0_9.index t (0 : Fin 2) * 512 ≤ (i 0).val ∧ (i 0).val < win0_9.index t (0 : Fin 2) * 512 + 512; omega
  | ⟨1, _⟩ => show win0_9.index t (1 : Fin 2) * 4608 ≤ (i 1).val ∧ (i 1).val < win0_9.index t (1 : Fin 2) * 4608 + 4608; omega

theorem final9 : (dats m 0 c).arrAt 9 cfg0.N = Cert.QkvRefIdeal.Read.val_main_v17 (F := Ideal) (a0 m c) (a1 m c) (a2 m c) := by
  refine (dats m 0 c).arrAt_eq_of_cover 9 _ (fun t _ => ?_) cover9
  rw [flushed9, out_p]
  funext y
  have hb0 : (((cfg0.win 9).blk t).view.emb y 0).val = win0_9.index t (0 : Fin 2) * 512 + 1 * (y 0).val := rfl
  have hb1 : (((cfg0.win 9).blk t).view.emb y 1).val = win0_9.index t (1 : Fin 2) * 4608 + 1 * (y 1).val := rfl
  obtain ⟨-, ⟨q0, q1⟩, -⟩ := odx t
  rw [q0] at hb0
  rw [q1] at hb1
  refine (p_eq m c t (y 0) (y 1)).trans ?_
  show _ = Cert.QkvRefIdeal.Read.val_main_v17 (F := Ideal) (a0 m c) (a1 m c) (a2 m c) (((cfg0.win 9).blk t).view.emb y)
  refine congrArg _ (funext fun a => Fin.ext ?_)
  match a with
  | ⟨0, _⟩ => exact Eq.trans (by show 512 * t.val + (y 0).val = t.val * 512 + 1 * (y 0).val; omega) hb0.symm
  | ⟨1, _⟩ => exact Eq.trans (by show (y 1).val = 0 * 4608 + 1 * (y 1).val; omega) hb1.symm

theorem cover10 (i : S2048x11264.Idx) : ∃ t : Fin cfg0.N, (cfg0.win 10).flush t = true ∧ i ∈ ((cfg0.win 10).blk t).view.set := by
  have h0 : (i 0).val < 2048 := (i 0).isLt
  have h1 : (i 1).val < 11264 := (i 1).isLt
  have hN : cfg0.N = 32 := N_0
  obtain ⟨t, ht⟩ : ∃ t : Fin cfg0.N, t.val = (i 0).val / 64 := ⟨⟨(i 0).val / 64, by omega⟩, rfl⟩
  obtain ⟨-, -, ⟨q0, q1⟩, -⟩ := odx t
  refine ⟨t, flush0_10 t, ?_⟩
  show i ∈ ((View.whole main_v4_2).slice (win0_10.rect t)).set
  rw [View.set_slice_whole, Rect.mem_set_unit]
  intro a
  match a with
  | ⟨0, _⟩ => show win0_10.index t (0 : Fin 2) * 64 ≤ (i 0).val ∧ (i 0).val < win0_10.index t (0 : Fin 2) * 64 + 64; omega
  | ⟨1, _⟩ => show win0_10.index t (1 : Fin 2) * 11264 ≤ (i 1).val ∧ (i 1).val < win0_10.index t (1 : Fin 2) * 11264 + 11264; omega

theorem final10 : (dats m 0 c).arrAt 10 cfg0.N = Cert.QkvRefIdeal.Read.val_main_v18 (F := Ideal) (a3 m c) := by
  refine (dats m 0 c).arrAt_eq_of_cover 10 _ (fun t _ => ?_) cover10
  rw [flushed10]
  funext y
  exact ((out_w m c t).1 ((cfg0.win 10).xinj (grid0.coords t) y)).trans rfl

theorem cover11 (i : S5632x2048.Idx) : ∃ t : Fin cfg0.N, (cfg0.win 11).flush t = true ∧ i ∈ ((cfg0.win 11).blk t).view.set := by
  have h0 : (i 0).val < 5632 := (i 0).isLt
  have h1 : (i 1).val < 2048 := (i 1).isLt
  have hN : cfg0.N = 32 := N_0
  obtain ⟨t, ht⟩ : ∃ t : Fin cfg0.N, t.val = (i 0).val / 176 := ⟨⟨(i 0).val / 176, by omega⟩, rfl⟩
  obtain ⟨-, -, -, ⟨q0, q1⟩, -⟩ := odx t
  refine ⟨t, flush0_11 t, ?_⟩
  show i ∈ ((View.whole main_v4_3).slice (win0_11.rect t)).set
  rw [View.set_slice_whole, Rect.mem_set_unit]
  intro a
  match a with
  | ⟨0, _⟩ => show win0_11.index t (0 : Fin 2) * 176 ≤ (i 0).val ∧ (i 0).val < win0_11.index t (0 : Fin 2) * 176 + 176; omega
  | ⟨1, _⟩ => show win0_11.index t (1 : Fin 2) * 2048 ≤ (i 1).val ∧ (i 1).val < win0_11.index t (1 : Fin 2) * 2048 + 2048; omega

theorem final11 : (dats m 0 c).arrAt 11 cfg0.N = Cert.QkvRefIdeal.Read.val_main_v19 (F := Ideal) (a4 m c) := by
  refine (dats m 0 c).arrAt_eq_of_cover 11 _ (fun t _ => ?_) cover11
  rw [flushed11]
  funext y
  exact ((out_w m c t).2.1 ((cfg0.win 11).xinj (grid0.coords t) y)).trans rfl

theorem cover12 (i : S2048x2048.Idx) : ∃ t : Fin cfg0.N, (cfg0.win 12).flush t = true ∧ i ∈ ((cfg0.win 12).blk t).view.set := by
  have h0 : (i 0).val < 2048 := (i 0).isLt
  have h1 : (i 1).val < 2048 := (i 1).isLt
  have hN : cfg0.N = 32 := N_0
  obtain ⟨t, ht⟩ : ∃ t : Fin cfg0.N, t.val = (i 0).val / 64 := ⟨⟨(i 0).val / 64, by omega⟩, rfl⟩
  obtain ⟨-, -, -, -, ⟨q0, q1⟩, -⟩ := odx t
  refine ⟨t, flush0_12 t, ?_⟩
  show i ∈ ((View.whole main_v4_4).slice (win0_12.rect t)).set
  rw [View.set_slice_whole, Rect.mem_set_unit]
  intro a
  match a with
  | ⟨0, _⟩ => show win0_12.index t (0 : Fin 2) * 64 ≤ (i 0).val ∧ (i 0).val < win0_12.index t (0 : Fin 2) * 64 + 64; omega
  | ⟨1, _⟩ => show win0_12.index t (1 : Fin 2) * 2048 ≤ (i 1).val ∧ (i 1).val < win0_12.index t (1 : Fin 2) * 2048 + 2048; omega

theorem final12 : (dats m 0 c).arrAt 12 cfg0.N = Cert.QkvRefIdeal.Read.val_main_v20 (F := Ideal) (a5 m c) := by
  refine (dats m 0 c).arrAt_eq_of_cover 12 _ (fun t _ => ?_) cover12
  rw [flushed12]
  funext y
  exact ((out_w m c t).2.2.1 ((cfg0.win 12).xinj (grid0.coords t) y)).trans rfl

theorem cover13 (i : S1024x2048.Idx) : ∃ t : Fin cfg0.N, (cfg0.win 13).flush t = true ∧ i ∈ ((cfg0.win 13).blk t).view.set := by
  have h0 : (i 0).val < 1024 := (i 0).isLt
  have h1 : (i 1).val < 2048 := (i 1).isLt
  have hN : cfg0.N = 32 := N_0
  obtain ⟨t, ht⟩ : ∃ t : Fin cfg0.N, t.val = (i 0).val / 32 := ⟨⟨(i 0).val / 32, by omega⟩, rfl⟩
  obtain ⟨-, -, -, -, -, ⟨q0, q1⟩, -⟩ := odx t
  refine ⟨t, flush0_13 t, ?_⟩
  show i ∈ ((View.whole main_v4_5).slice (win0_13.rect t)).set
  rw [View.set_slice_whole, Rect.mem_set_unit]
  intro a
  match a with
  | ⟨0, _⟩ => show win0_13.index t (0 : Fin 2) * 32 ≤ (i 0).val ∧ (i 0).val < win0_13.index t (0 : Fin 2) * 32 + 32; omega
  | ⟨1, _⟩ => show win0_13.index t (1 : Fin 2) * 2048 ≤ (i 1).val ∧ (i 1).val < win0_13.index t (1 : Fin 2) * 2048 + 2048; omega

theorem final13 : (dats m 0 c).arrAt 13 cfg0.N = Cert.QkvRefIdeal.Read.val_main_v21 (F := Ideal) (a6 m c) := by
  refine (dats m 0 c).arrAt_eq_of_cover 13 _ (fun t _ => ?_) cover13
  rw [flushed13]
  funext y
  exact ((out_w m c t).2.2.2.1 ((cfg0.win 13).xinj (grid0.coords t) y)).trans rfl

theorem cover14 (i : S1024x2048.Idx) : ∃ t : Fin cfg0.N, (cfg0.win 14).flush t = true ∧ i ∈ ((cfg0.win 14).blk t).view.set := by
  have h0 : (i 0).val < 1024 := (i 0).isLt
  have h1 : (i 1).val < 2048 := (i 1).isLt
  have hN : cfg0.N = 32 := N_0
  obtain ⟨t, ht⟩ : ∃ t : Fin cfg0.N, t.val = (i 0).val / 32 := ⟨⟨(i 0).val / 32, by omega⟩, rfl⟩
  obtain ⟨-, -, -, -, -, -, q0, q1⟩ := odx t
  refine ⟨t, flush0_14 t, ?_⟩
  show i ∈ ((View.whole main_v4_6).slice (win0_14.rect t)).set
  rw [View.set_slice_whole, Rect.mem_set_unit]
  intro a
  match a with
  | ⟨0, _⟩ => show win0_14.index t (0 : Fin 2) * 32 ≤ (i 0).val ∧ (i 0).val < win0_14.index t (0 : Fin 2) * 32 + 32; omega
  | ⟨1, _⟩ => show win0_14.index t (1 : Fin 2) * 2048 ≤ (i 1).val ∧ (i 1).val < win0_14.index t (1 : Fin 2) * 2048 + 2048; omega

theorem final14 : (dats m 0 c).arrAt 14 cfg0.N = Cert.QkvRefIdeal.Read.val_main_v22 (F := Ideal) (a7 m c) := by
  refine (dats m 0 c).arrAt_eq_of_cover 14 _ (fun t _ => ?_) cover14
  rw [flushed14]
  funext y
  exact ((out_w m c t).2.2.2.2 ((cfg0.win 14).xinj (grid0.coords t) y)).trans rfl

end Cert.QkvIdeal.Val
end
-- ==== Proof.OutPay.lean ====
/- What a point of the output projection leaves in its output block, over its input blocks. -/
module

public import proofs.«01_k».proof.Proof.FfnSpec
public import proofs.«01_k».proof.Proof.Gen.OutIdeal.Value
public import Idealize.ShloMosaic.Lib.Pipeline.ValueKit
public import Idealize.ShloMosaic.Lib.Pipeline.ReadBack

@[expose] public section

set_option maxRecDepth 16384

noncomputable section

namespace Cert.OutIdeal.Pay

open Cert.OutIdeal Cert.OutIdeal.Gen Cert.OutIdeal.Value Cert.FfnSpec
open Idealize.ShloMosaic Idealize.ShloMosaic.TcCoe Idealize.SL.Sem

variable (x0 : FVec Ideal S1024x2048 .bf16) (x1 : FVec Ideal S1024x2048 .f32) (x2 : FVec Ideal S2048x2048 .bf16) (x3 : FVec Ideal S1x2048 .f32)

/-- The product of the block's rows with the weights. -/
def PR (y : S1024x2048.Idx) : EReal := ∑ k, x0 (ix2 (y 0) k) * x2 (ix2 k (y 1))

/-- The residual rows plus the normalized product. -/
def FIN : FVec Ideal S1024x2048 .f32 := fun y =>
  x1 (ix2 (y 0) (y 1)) + FfnSpec.norm (fun l => PR x0 x2 (ix2 (y 0) l)) (fun l => x3 (ix2 0 l)) (y 1)

theorem fin_at (y : S1024x2048.Idx) :
    FIN x0 x1 x2 x3 y = x1 (ix2 (y 0) (y 1)) + PR x0 x2 (ix2 (y 0) (y 1))
      * Ideal.rsqrt (Ideal.div (∑ l, PR x0 x2 (ix2 (y 0) l) * PR x0 x2 (ix2 (y 0) l))
          (Ideal.ofBits .f32 0x45000000#32) + Ideal.ofBits .f32 0x358637BD#32) * x3 (ix2 0 (y 1)) := rfl

set_option maxHeartbeats 4000000 in
theorem out_eq : out0_4 (F := Ideal) x0 x1 x2 x3 = FIN x0 x1 x2 x3 := by
  funext y
  unfold_out out0_4
  canon_tiles x h
  all_goals
    open_payloads
    pointwise [fin_at, PR]
    blk_point []

end Cert.OutIdeal.Pay
end
-- ==== Proof.OutRef.lean ====
/- The reference of the output projection, read at an index. -/
module

public import proofs.«01_k».proof.Proof.FfnSpec
public import proofs.«01_k».proof.Proof.Gen.OutRefIdeal.Read

@[expose] public section

set_option maxRecDepth 16384

noncomputable section

namespace Cert.OutRefIdeal.At

open Cert.OutRefIdeal Cert.OutRefIdeal.Gen Cert.OutRefIdeal.Read Cert.FfnSpec
open Idealize.ShloMosaic Idealize.ShloMosaic.TcCoe Idealize.SL.Sem

variable (x0 x1 : FVec Ideal S4x4096x2048 .f32) (x2 : FVec Ideal S2048x2048 .f32) (x3 : FVec Ideal S2048 .f32)

/-- Row `r` of the flattened residual stream. -/
def res (r : Fin 16384) (k : Fin 2048) : EReal := val_main_v0 (F := Ideal) x1 (ix2 r k)

/-- Row `r` of the flattened mixed tokens. -/
def row (r : Fin 16384) (k : Fin 2048) : EReal := val_main_v1 (F := Ideal) x0 (ix2 r k)

theorem v2_at (r : Fin 16384) (c : Fin 2048) : val_main_v2 (F := Ideal) x0 x2 (ix2 r c) = dot (row x0 r) (fun k => x2 (ix2 k c)) := by
  unfold dot row val_main_v2
  generalize val_main_v1 (F := Ideal) x0 = v
  pointwise []

theorem v16_at (r : Fin 16384) (c : Fin 2048) :
    val_main_v16 (F := Ideal) x0 x1 x2 x3 (ix2 r c) = res x1 r c + norm (fun c => dot (row x0 r) (fun k => x2 (ix2 k c))) (fun k => x3 (ix1 k)) c := by
  have e := fun c => v2_at x0 x2 r c
  pointwise [val_main_v16, val_main_v15, val_main_v14, val_main_v13, val_main_v12, val_main_v11, val_main_v10, val_main_v9, val_main_v8, val_main_v7,
    val_main_v6, val_main_v5, val_main_v4, val_main_v3, val_main_cst, val_main_cst_0, val_main_cst_1]
  simp only [e]
  rfl

end Cert.OutRefIdeal.At

end
-- ==== Proof.OutVal.lean ====
/- The output projection's array is its reference's: every block is some point's, and each point's block is the reference's. -/
module

public import proofs.«01_k».proof.Proof.OutPay
public import proofs.«01_k».proof.Proof.OutRef
public import Idealize.ShloMosaic.Lib.Claim

@[expose] public section

set_option maxRecDepth 16384

noncomputable section

namespace Cert.OutIdeal.Val

open Cert.OutIdeal Cert.OutIdeal.Gen Cert.OutIdeal.Value Cert.OutIdeal.Pay
open Idealize.ShloMosaic Idealize.ShloMosaic.TcCoe Idealize.SL.Sem

variable (m : (ℓ : Loc nD τ sig) → Buf (Elt Ideal) ℓ) (c : Dev nD)

/-- The arguments as launched. -/
abbrev a0 : FVec Ideal S4x4096x2048 .f32 := m ((c : Thread nD τ).loc main_arg0)
abbrev a1 : FVec Ideal S4x4096x2048 .f32 := m ((c : Thread nD τ).loc main_arg1)
abbrev a2 : FVec Ideal S2048x2048 .f32 := m ((c : Thread nD τ).loc main_arg2)
abbrev a3 : FVec Ideal S2048 .f32 := m ((c : Thread nD τ).loc main_arg3)

theorem idx : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, _)

theorem flush : ∀ t : Fin cfg0.N, (cfg0.win 4).flush t = true :=
  (by decide +kernel : ∀ t : Fin grid0.N, _)

theorem blk0 (t : Fin cfg0.N) (a : Fin 1024) (k : Fin 2048) (h : 1024 * t.val + a.val < 16384) :
    iblk m c 0 t (ix2 a k) = Cert.OutRefIdeal.At.row (a0 m c) ⟨1024 * t.val + a.val, h⟩ k := by
  pointwise [Cert.OutRefIdeal.At.row, Cert.OutRefIdeal.Read.val_main_v1]
  blk_point [iblk, V, idx t]

theorem blk1 (t : Fin cfg0.N) (a : Fin 1024) (k : Fin 2048) (h : 1024 * t.val + a.val < 16384) :
    iblk m c 1 t (ix2 a k) = Cert.OutRefIdeal.At.res (a1 m c) ⟨1024 * t.val + a.val, h⟩ k := by
  pointwise [Cert.OutRefIdeal.At.res, Cert.OutRefIdeal.Read.val_main_v0]
  blk_point [iblk, V, idx t]

theorem blk2 (t : Fin cfg0.N) (k l : Fin 2048) : iblk m c 2 t (ix2 k l) = a2 m c (ix2 k l) := by
  blk_point [iblk, V, idx t]

theorem blk3 (t : Fin cfg0.N) (k : Fin 2048) : iblk m c 3 t (ix2 0 k) = a3 m c (ix1 k) := by
  blk_point [iblk, V, idx t]

theorem rlt (t : Fin cfg0.N) (a : Fin 1024) : 1024 * t.val + a.val < 16384 := by
  have h := lt_of_lt_of_eq t.isLt (show cfg0.N = 16 from N_0); omega

/-- What a point leaves in its block, at an index. -/
theorem fin_eq (t : Fin cfg0.N) (a : Fin 1024) (b : Fin 2048) :
    FIN (iblk m c 0 t) (iblk m c 1 t) (iblk m c 2 t) (iblk m c 3 t) (ix2 a b)
      = Cert.OutRefIdeal.Read.val_main_v16 (F := Ideal) (a0 m c) (a1 m c) (a2 m c) (a3 m c) (ix2 ⟨1024 * t.val + a.val, rlt t a⟩ b) := by
  rw [Cert.OutRefIdeal.At.v16_at]
  refine congrArg₂ (fun x y : EReal => x + y) (blk1 m c t a b (rlt t a)) ?_
  refine congrFun (congrArg₂ FfnSpec.norm (funext fun l => ?_) (funext fun k => blk3 m c t k)) b
  exact Finset.sum_congr rfl fun k _ => congrArg₂ (fun x y : EReal => x * y) (blk0 m c t a k (rlt t a)) (blk2 m c t k l)

theorem flushed_at (t : Fin cfg0.N) :
    (dats m 0 c).flushed 4 t = ((cfg0.win 4).blk t).view.read (Elt Ideal)
      (Cert.OutRefIdeal.Read.val_main_v16 (F := Ideal) (a0 m c) (a1 m c) (a2 m c) (a3 m c)) := by
  rw [flushed4, out_eq]
  funext y
  have hb0 : (((cfg0.win 4).blk t).view.emb y 0).val = win0_4.index t (0 : Fin 2) * 1024 + 1 * (y 0).val := rfl
  have hb1 : (((cfg0.win 4).blk t).view.emb y 1).val = win0_4.index t (1 : Fin 2) * 2048 + 1 * (y 1).val := rfl
  obtain ⟨-, -, -, -, q0, q1⟩ := idx t
  rw [q0] at hb0
  rw [q1] at hb1
  refine (fin_eq m c t (y 0) (y 1)).trans ?_
  show _ = Cert.OutRefIdeal.Read.val_main_v16 (F := Ideal) (a0 m c) (a1 m c) (a2 m c) (a3 m c) (((cfg0.win 4).blk t).view.emb y)
  refine congrArg _ (funext fun a => Fin.ext ?_)
  match a with
  | ⟨0, _⟩ => exact Eq.trans (by show 1024 * t.val + (y 0).val = t.val * 1024 + 1 * (y 0).val; omega) hb0.symm
  | ⟨1, _⟩ => exact Eq.trans (by show (y 1).val = 0 * 2048 + 1 * (y 1).val; omega) hb1.symm

/-- An index is in a point's block when each of its coordinates is in the block's range. -/
theorem mem_blk (t : Fin cfg0.N) (i : S16384x2048.Idx) :
    i ∈ ((cfg0.win 4).blk t).view.set ↔ ∀ a : Fin 2, win0_4.index t a * S1024x2048.size a ≤ (i a).val
      ∧ (i a).val < win0_4.index t a * S1024x2048.size a + S1024x2048.size a := by
  show i ∈ ((View.whole main_v5).slice (win0_4.rect t)).set ↔ _
  rw [View.set_slice_whole, Rect.mem_set_unit]
  exact Iff.rfl

/-- The output array after the run is the reference's. -/
theorem final : (dats m 0 c).arrAt 4 cfg0.N
    = Cert.OutRefIdeal.Read.val_main_v16 (F := Ideal) (a0 m c) (a1 m c) (a2 m c) (a3 m c) := by
  refine (dats m 0 c).arrAt_eq_of_cover 4 _ (fun t _ => flushed_at m c t) fun i => ?_
  have h0 : (i 0).val < 16384 := (i 0).isLt
  have h1 : (i 1).val < 2048 := (i 1).isLt
  have hN : cfg0.N = 16 := N_0
  obtain ⟨t, ht⟩ : ∃ t : Fin cfg0.N, t.val = (i 0).val / 1024 := ⟨⟨(i 0).val / 1024, by omega⟩, rfl⟩
  obtain ⟨-, -, -, -, q0, q1⟩ := idx t
  refine ⟨t, flush t, (mem_blk t i).2 fun a => ?_⟩
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 2048 ≤ (i 1).val ∧ (i 1).val < win0_4.index t (1 : Fin 2) * 2048 + 2048; omega

end Cert.OutIdeal.Val
end
-- ==== Proof.FfnOnePay.lean ====
/- What the points of the first half-step's feed-forward kernel leave in its output block and in its scratch, over their input blocks. -/
module

public import proofs.«01_k».proof.Proof.FfnPay
public import proofs.«01_k».proof.Proof.Gen.FfnOneIdeal.Value
public import Idealize.ShloMosaic.Lib.Pipeline.ValueKit
public import Idealize.ShloMosaic.Lib.Pipeline.ReadBack

@[expose] public section

set_option maxRecDepth 16384

noncomputable section

namespace Cert.FfnOneIdeal.Pay

open Cert.FfnOneIdeal Cert.FfnOneIdeal.Gen Cert.FfnOneIdeal.Value Cert.FfnSpec
open Cert.FfnIdeal.Pay (NB SW FIN norm_at fin_at at_index)
open Idealize.ShloMosaic Idealize.ShloMosaic.TcCoe Idealize.SL.Sem

variable (m : (ℓ : Loc nD τ sig) → Buf (Elt Ideal) ℓ)

theorem sout_A (c : Dev nD) (t : Fin cfg0.N) (h0 : t.val % 11 = 0) :
    (outsAt0 m c t.val t.isLt).2 = NB (iblk m c 0 t) (iblk m c 1 t) := by
  rw [outsAt0_A m c t h0 (by omega) (by omega)]
  funext y
  frame_out
  canon_tiles x h
  all_goals
    open_payloads
    pointwise [norm_at]
    blk_point []

/-- The gated product of the normalized rows a tile of 256 rows is read from. -/
theorem tile (n : FVec Ideal S256x2048 .bf16) (N : FVec Ideal S1024x2048 .bf16) (x2 x3 : FVec Ideal S2048x512 .bf16)
    (x4 : FVec Ideal S512x2048 .bf16) (x : S256x2048.Idx) (y : S1024x2048.Idx) (h1 : (y 1 : ℕ) = x 1)
    (hn : ∀ k, n (ix2 (x 0) k) = N (ix2 (y 0) k)) :
    k0_pay17 n x2 x3 x4 x = SW N x2 x3 x4 y := by
  have e : x 1 = y 1 := Fin.ext h1.symm
  pointwise [k0_pay17, SW, act, FfnSpec.sig, dot, Ideal.logistic, hn, e]

set_option maxHeartbeats 4000000 in
theorem out_A (c : Dev nD) (t : Fin cfg0.N) (h0 : t.val % 11 = 0) :
    (outsAt0 m c t.val t.isLt).1 = SW (NB (iblk m c 0 t) (iblk m c 1 t)) (iblk m c 2 t) (iblk m c 3 t) (iblk m c 4 t) := by
  rw [outsAt0_A m c t h0 (by omega) (by omega)]
  funext y
  frame_out
  canon_tiles x h
  all_goals
    refine tile _ _ _ _ _ x y h1 fun k => ?_
    rw [View.readCov_eq_canon']
    have hx : (x 0 : ℕ) < 256 := (x 0).isLt
    have hk : (k : ℕ) < 2048 := k.isLt
    refine at_index _ _ (y 0) k _ ?_ ?_ fun w hw0 hw1 => ?_
    · exact (Rect.idx_unit_val _ _ _ _ _).trans (by rw [h0]; first | rfl | exact Nat.zero_add _)
    · exact (Rect.idx_unit_val _ _ _ _ _).trans (Nat.zero_add _)
    canon_tiles z hz using (by
      simp only [List.mem_cons, exists_eq_or_imp, Rect.mem_set_unit, Fin.forall_fin_two]
      simp only [Matrix.cons_val_zero, Matrix.cons_val_one, Nat.zero_add, Nat.zero_le, true_and, hw1, hk, and_true]
      clear hk
      simp only [List.not_mem_nil, false_and, exists_false, or_false]
      omega)
    all_goals
      open_payloads
      pointwise [norm_at]
      blk_point []

theorem out_B (c : Dev nD) (t : Fin cfg0.N) (h1 : 1 ≤ t.val % 11 ∧ t.val % 11 ≤ 9) (y) :
    (outsAt0 m c t.val t.isLt).1 y = (outsAt0 m c (t.val - 1) (by omega)).1 y + SW (outsAt0 m c (t.val - 1) (by omega)).2 (iblk m c 2 t) (iblk m c 3 t) (iblk m c 4 t) y := by
  rw [outsAt0_B m c t (by omega) h1 (by omega)]
  frame_out
  rw [read_unread_whole]
  pointwise [k0_pay2, SW, act, FfnSpec.sig, dot, Ideal.logistic]

set_option maxHeartbeats 4000000 in
theorem out_C (c : Dev nD) (t : Fin cfg0.N) (h1 : t.val % 11 = 10) :
    (outsAt0 m c t.val t.isLt).1 = FIN (iblk m c 0 t) (outsAt0 m c (t.val - 1) (by omega)).1 (outsAt0 m c (t.val - 1) (by omega)).2
      (iblk m c 2 t) (iblk m c 3 t) (iblk m c 4 t) (iblk m c 5 t) := by
  rw [outsAt0_C m c t (by omega) (by omega) h1]
  funext y
  frame_out
  rw [read_unread_whole]
  canon_tiles x h
  all_goals
    open_payloads
    pointwise [fin_at, SW, act, FfnSpec.sig, dot, Ideal.logistic]
    blk_point []

end Cert.FfnOneIdeal.Pay
end
-- ==== Proof.FfnOneRef.lean ====
/- The reference of the first half-step's call, read at an index: the head's rows, then the half-step's. -/
module

public import proofs.«01_k».proof.Proof.FfnRef
public import proofs.«01_k».proof.Proof.Gen.FfnOneRefIdeal.Read

@[expose] public section

set_option maxRecDepth 16384

noncomputable section

namespace Cert.FfnOneRefIdeal.At

open Cert.FfnOneRefIdeal Cert.FfnOneRefIdeal.Gen Cert.FfnOneRefIdeal.Read
open Idealize.ShloMosaic Idealize.ShloMosaic.TcCoe Idealize.SL.Sem

variable (x0 : FVec Ideal S4x4096x2048 .f32) (x1 : FVec Ideal S2048 .f32) (x2 : FVec Ideal S2048x11264 .f32)
  (x3 : FVec Ideal S5632x2048 .f32) (x4 : FVec Ideal S2048 .f32) (x5 : FVec Ideal S16384x2048 .f32)

/-- The half-step is the one the second call's reference takes. -/
theorem step_eq : val_main_v36 (F := Ideal) x0 x1 x2 x3 x4
    = Cert.FfnRefIdeal.Read.val_main_v35 (F := Ideal) x0 x1 x2 x3 x4 := rfl

theorem head_at (r : Fin 16384) (c : Fin 2048) (h : r.val < 1024) :
    val_main_v38 (F := Ideal) x0 x1 x2 x3 x4 x5 (ix2 r c) = x5 (ix2 r c) := by
  pointwise [val_main_v38, val_main_v0]
  exact dif_pos h

theorem tail_at (r : Fin 16384) (c : Fin 2048) (h : 1024 ≤ r.val) :
    val_main_v38 (F := Ideal) x0 x1 x2 x3 x4 x5 (ix2 r c)
      = Cert.FfnRefIdeal.Read.val_main_v35 (F := Ideal) x0 x1 x2 x3 x4 (ix2 r c) := by
  pointwise [val_main_v38, val_main_v37]
  refine (dif_neg (not_lt.2 h)).trans ?_
  refine (congrFun (step_eq x0 x1 x2 x3 x4) _).trans (congrArg (fun q => Cert.FfnRefIdeal.Read.val_main_v35 (F := Ideal) x0 x1 x2 x3 x4 (ix2 q c)) (Fin.ext ?_))
  show 1024 + (r.val - 1024) = r.val
  omega

end Cert.FfnOneRefIdeal.At

end
-- ==== Proof.FfnOneVal.lean ====
/- The first half-step's feed-forward kernel leaves its reference's rows after the first tile, and the head's before. -/
module

public import proofs.«01_k».proof.Proof.FfnOnePay
public import proofs.«01_k».proof.Proof.FfnVal
public import proofs.«01_k».proof.Proof.FfnOneRef
public import Idealize.ShloMosaic.Lib.Claim

@[expose] public section

set_option maxRecDepth 16384

noncomputable section

namespace Cert.FfnOneIdeal.Val

open Cert.FfnOneIdeal Cert.FfnOneIdeal.Gen Cert.FfnOneIdeal.Value Cert.FfnOneIdeal.Pay
open Idealize.ShloMosaic Idealize.ShloMosaic.TcCoe Idealize.SL.Sem

variable (m : (ℓ : Loc nD τ sig) → Buf (Elt Ideal) ℓ) (c : Dev nD)

/-- The arguments as launched. -/
abbrev a0 : FVec Ideal S4x4096x2048 .f32 := m ((c : Thread nD τ).loc main_arg0)
abbrev a1 : FVec Ideal S2048 .f32 := m ((c : Thread nD τ).loc main_arg1)
abbrev a2 : FVec Ideal S2048x11264 .f32 := m ((c : Thread nD τ).loc main_arg2)
abbrev a3 : FVec Ideal S5632x2048 .f32 := m ((c : Thread nD τ).loc main_arg3)
abbrev a4 : FVec Ideal S2048 .f32 := m ((c : Thread nD τ).loc main_arg4)
abbrev a5 : FVec Ideal S16384x2048 .f32 := m ((c : Thread nD τ).loc main_arg5)

theorem idx : ∀ t : Fin cfg0.N, (win0_0.index t (0 : Fin 2) = t.val / 11 + 1 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = t.val % 11)
    ∧ (win0_3.index t (0 : Fin 2) = 0 ∧ win0_3.index t (1 : Fin 2) = t.val % 11)
    ∧ (win0_4.index t (0 : Fin 2) = t.val % 11 ∧ win0_4.index t (1 : Fin 2) = 0)
    ∧ (win0_5.index t (0 : Fin 2) = 0 ∧ win0_5.index t (1 : Fin 2) = 0)
    ∧ (win0_6.index t (0 : Fin 2) = t.val / 11 + 1 ∧ win0_6.index t (1 : Fin 2) = 0) :=
  (by decide +kernel : ∀ t : Fin grid0.N, _)

theorem blk0 (t : Fin cfg0.N) (a : Fin 1024) (k : Fin 2048) (h : 1024 * (t.val / 11 + 1) + a.val < 16384) :
    iblk m c 0 t (ix2 a k) = Cert.FfnRefIdeal.At.row (a0 m c) ⟨1024 * (t.val / 11 + 1) + a.val, h⟩ k := by
  pointwise [Cert.FfnRefIdeal.At.row, Cert.FfnRefIdeal.Read.val_main_v0]
  blk_point [iblk, V, idx t]

theorem blk1 (t : Fin cfg0.N) (k : Fin 2048) : iblk m c 1 t (ix2 0 k) = a1 m c (ix1 k) := by
  blk_point [iblk, V, idx t]

theorem blk2 (t : Fin cfg0.N) (k : Fin 2048) (l : Fin 512) (h : (t.val % 11) * 512 + l.val < 11264) :
    iblk m c 2 t (ix2 k l) = a2 m c (ix2 k ⟨(t.val % 11) * 512 + l.val, h⟩) := by
  blk_point [iblk, V, idx t]

theorem blk3 (t : Fin cfg0.N) (k : Fin 2048) (l : Fin 512) (h : 5632 + ((t.val % 11) * 512 + l.val) < 11264) :
    iblk m c 3 t (ix2 k l) = a2 m c (ix2 k ⟨5632 + ((t.val % 11) * 512 + l.val), h⟩) := by
  blk_point [iblk, V, idx t]

theorem blk4 (t : Fin cfg0.N) (l : Fin 512) (k : Fin 2048) (h : (t.val % 11) * 512 + l.val < 5632) :
    iblk m c 4 t (ix2 l k) = a3 m c (ix2 ⟨(t.val % 11) * 512 + l.val, h⟩ k) := by
  blk_point [iblk, V, idx t]

theorem blk5 (t : Fin cfg0.N) (k : Fin 2048) : iblk m c 5 t (ix2 0 k) = a4 m c (ix1 k) := by
  blk_point [iblk, V, idx t]

open Cert.FfnRefIdeal.At (row ffn)
open Cert.FfnIdeal.Val (nrow ch ffn_eq act_congr)
open Cert.FfnIdeal.Pay (NB SW)

theorem rlt (t : Fin cfg0.N) (a : Fin 1024) : 1024 * (t.val / 11 + 1) + a.val < 16384 := by
  have h := lt_of_lt_of_eq t.isLt (show cfg0.N = 165 from N_0); omega

theorem nb_at (t : Fin cfg0.N) (a : Fin 1024) (k : Fin 2048) :
    NB (iblk m c 0 t) (iblk m c 1 t) (ix2 a k) = nrow (a0 m c) (a1 m c) ⟨1024 * (t.val / 11 + 1) + a.val, rlt t a⟩ k := by
  have e0 := funext fun k => blk0 m c t a k (rlt t a)
  have e1 := funext fun k => blk1 m c t k
  exact congrFun (congrArg₂ FfnSpec.norm e0 e1) k

theorem sw_at (t : Fin cfg0.N) (n : FVec Ideal S1024x2048 .bf16)
    (hn : ∀ a k, n (ix2 a k) = nrow (a0 m c) (a1 m c) ⟨1024 * (t.val / 11 + 1) + a.val, rlt t a⟩ k) (a : Fin 1024) (b : Fin 2048) :
    SW n (iblk m c 2 t) (iblk m c 3 t) (iblk m c 4 t) (ix2 a b) = ch (a0 m c) (a1 m c) (a2 m c) (a3 m c) ⟨1024 * (t.val / 11 + 1) + a.val, rlt t a⟩ b (t.val % 11) := by
  refine Finset.sum_congr rfl fun l _ => ?_
  have hl := l.isLt
  have hj : t.val % 11 < 11 := Nat.mod_lt _ (by decide)
  have h : t.val % 11 * 512 + l.val < 5632 := by omega
  rw [dif_pos h]
  exact congrArg₂ (· * ·) (act_congr (funext fun k => hn a k) (funext fun k => blk2 m c t k l (by omega))
    (funext fun k => blk3 m c t k l (by omega))) (blk4 m c t l b h)

/-- What every point leaves: the block's normalized rows in the scratch, and in the output the chunks so far. -/
theorem inv (n : ℕ) : ∀ hn : n < cfg0.N,
    (∀ a k, (outsAt0 m c n hn).2 (ix2 a k) = nrow (a0 m c) (a1 m c) ⟨1024 * (n / 11 + 1) + a.val, rlt ⟨n, hn⟩ a⟩ k)
    ∧ (n % 11 ≤ 9 → ∀ a b, (outsAt0 m c n hn).1 (ix2 a b)
        = ∑ j ∈ Finset.range (n % 11 + 1), ch (a0 m c) (a1 m c) (a2 m c) (a3 m c) ⟨1024 * (n / 11 + 1) + a.val, rlt ⟨n, hn⟩ a⟩ b j) := by
  refine FfnSpec.chunks (fun n hn a k => (outsAt0 m c n hn).2 (ix2 a k)) (fun n hn a b => (outsAt0 m c n hn).1 (ix2 a b))
    (fun n hn a => ⟨1024 * (n / 11 + 1) + a.val, rlt ⟨n, hn⟩ a⟩) (nrow (a0 m c) (a1 m c)) (ch (a0 m c) (a1 m c) (a2 m c) (a3 m c))
    (fun n hn h => ?_) (fun n hn h a k => ?_) (fun n hn h a b => ?_) (fun n hn h => ?_) (fun n hn h i a b => ?_) n
  · funext a
    refine Fin.ext ?_
    show 1024 * ((n + 1) / 11 + 1) + a.val = 1024 * (n / 11 + 1) + a.val
    omega
  · exact (congrFun (sout_A m c ⟨n, hn⟩ h) _).trans (nb_at m c ⟨n, hn⟩ a k)
  · refine (congrFun (out_A m c ⟨n, hn⟩ h) _).trans ((sw_at m c ⟨n, hn⟩ _ (nb_at m c ⟨n, hn⟩) a b).trans ?_)
    show ch (a0 m c) (a1 m c) (a2 m c) (a3 m c) _ b (n % 11) = _
    rw [h]
  · funext a k
    by_cases h1 : (n + 1) % 11 = 10
    · rw [outsAt0_C m c ⟨n + 1, hn⟩ h (fun h => by have := h.2; dsimp only at this; omega) h1]; rfl
    · rw [outsAt0_B m c ⟨n + 1, hn⟩ h ⟨by dsimp only; omega, by dsimp only; omega⟩ h1]; rfl
  · refine (out_B m c ⟨n + 1, hn⟩ h (ix2 a b)).trans ?_
    exact congrArg₂ (fun x y : EReal => x + y) rfl (sw_at m c ⟨n + 1, hn⟩ _ i a b)

/-- What the last point of a block leaves in the output. -/
theorem last (t : Fin cfg0.N) (h : t.val % 11 = 10) (a : Fin 1024) (b : Fin 2048) :
    (outsAt0 m c t.val t.isLt).1 (ix2 a b) = Cert.FfnRefIdeal.Read.val_main_v35 (F := Ideal) (a0 m c) (a1 m c) (a2 m c) (a3 m c) (a4 m c)
      (ix2 ⟨1024 * (t.val / 11 + 1) + a.val, rlt t a⟩ b) := by
  obtain ⟨i1, i2⟩ := inv m c (t.val - 1) (by omega)
  have hd : (t.val - 1) / 11 = t.val / 11 := by omega
  have hm : (t.val - 1) % 11 = 9 := by omega
  refine (congrFun (out_C m c t h) (ix2 a b)).trans ?_
  rw [Cert.FfnRefIdeal.At.v35_at]
  refine congrArg₂ (· + ·) (blk0 m c t a b (rlt t a)) ?_
  have hs : (fun l => (outsAt0 m c (t.val - 1) (by omega)).1 (ix2 a l)
      + SW (outsAt0 m c (t.val - 1) (by omega)).2 (iblk m c 2 t) (iblk m c 3 t) (iblk m c 4 t) (ix2 a l))
      = ffn (a0 m c) (a1 m c) (a2 m c) (a3 m c) ⟨1024 * (t.val / 11 + 1) + a.val, rlt t a⟩ := by
    funext l
    rw [← ffn_eq, Finset.sum_range_succ]
    refine congrArg₂ (· + ·) ?_ ?_
    · refine (i2 (by omega) a l).trans ?_
      simp only [hd, hm]
    · refine (sw_at m c t _ (fun a k => (i1 a k).trans (by simp only [hd])) a l).trans ?_
      rw [h]
  have hg : (fun l => Ideal.ofBits .f32 0x3F000000#32 * (show EReal from iblk m c 5 t (ix2 0 l)))
      = fun l => Ideal.ofBits .f32 0x3F000000#32 * a4 m c (ix1 l) := by
    funext l; exact congrArg _ (blk5 m c t l)
  refine (congrFun (congrArg₂ FfnSpec.norm hs hg) b).trans ?_
  exact mul_left_comm _ _ _

/-- What a block's last point writes back is the half-step's rows of that block. -/
theorem flushed_at (t : Fin cfg0.N) (h : (cfg0.win 6).flush t = true) : (dats m 0 c).flushed 6 t
    = ((cfg0.win 6).blk t).view.read (Elt Ideal)
      (Cert.FfnRefIdeal.Read.val_main_v35 (F := Ideal) (a0 m c) (a1 m c) (a2 m c) (a3 m c) (a4 m c)) := by
  rw [flushed6]
  funext y
  have hb0 : (((cfg0.win 6).blk t).view.emb y 0).val = win0_6.index t (0 : Fin 2) * 1024 + 1 * (y 0).val := rfl
  have hb1 : (((cfg0.win 6).blk t).view.emb y 1).val = win0_6.index t (1 : Fin 2) * 2048 + 1 * (y 1).val := rfl
  obtain ⟨-, -, -, -, -, -, q0, q1⟩ := idx t
  rw [q0] at hb0
  rw [q1] at hb1
  have e : (cfg0.win 6).cut (grid0.coords t) (outsAt0 m c t.val t.isLt).1 y = (outsAt0 m c t.val t.isLt).1 (ix2 (y 0) (y 1)) := by
    refine congrArg (outsAt0 m c t.val t.isLt).1 (funext fun a => ?_)
    match a with
    | ⟨0, _⟩ => rfl
    | ⟨1, _⟩ => rfl
  refine e.trans ((last m c t ((flush0_6 t).1 h) (y 0) (y 1)).trans ?_)
  show _ = Cert.FfnRefIdeal.Read.val_main_v35 (F := Ideal) (a0 m c) (a1 m c) (a2 m c) (a3 m c) (a4 m c) (((cfg0.win 6).blk t).view.emb y)
  refine congrArg _ (funext fun a => Fin.ext ?_)
  match a with
  | ⟨0, _⟩ => exact Eq.trans (by show 1024 * (t.val / 11 + 1) + (y 0).val = (t.val / 11 + 1) * 1024 + 1 * (y 0).val; omega) hb0.symm
  | ⟨1, _⟩ => exact Eq.trans (by show (y 1).val = 0 * 2048 + 1 * (y 1).val; omega) hb1.symm

/-- An index is in a point's block when each of its coordinates is in the block's range. -/
theorem mem_blk (t : Fin cfg0.N) (i : S16384x2048.Idx) :
    i ∈ ((cfg0.win 6).blk t).view.set ↔ ∀ a : Fin 2, win0_6.index t a * S1024x2048.size a ≤ (i a).val
      ∧ (i a).val < win0_6.index t a * S1024x2048.size a + S1024x2048.size a := by
  show i ∈ ((View.whole main_v8).slice (win0_6.rect t)).set ↔ _
  rw [View.set_slice_whole, Rect.mem_set_unit]
  exact Iff.rfl

/-- The rows after the first tile are the half-step's. -/
theorem final_tail (i : S16384x2048.Idx) (h : 1024 ≤ (i 0).val) : (dats m 0 c).arrAt 6 cfg0.N i
    = Cert.FfnRefIdeal.Read.val_main_v35 (F := Ideal) (a0 m c) (a1 m c) (a2 m c) (a3 m c) (a4 m c) i := by
  have h0 : (i 0).val < 16384 := (i 0).isLt
  have h1 : (i 1).val < 2048 := (i 1).isLt
  have hN : cfg0.N = 165 := N_0
  obtain ⟨t, ht⟩ : ∃ t : Fin cfg0.N, t.val = 11 * ((i 0).val / 1024 - 1) + 10 :=
    ⟨⟨11 * ((i 0).val / 1024 - 1) + 10, by omega⟩, rfl⟩
  obtain ⟨-, -, -, -, -, -, q0, q1⟩ := idx t
  refine (dats m 0 c).arrAt_apply_of_mem 6 _ (flushed_at m c) cfg0.N t i t.isLt ((flush0_6 t).2 (by omega)) ((mem_blk t i).2 fun a => ?_)
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 2048 ≤ (i 1).val ∧ (i 1).val < win0_6.index t (1 : Fin 2) * 2048 + 2048; omega

/-- The rows of the first tile are the head's. -/
theorem final_head (i : S16384x2048.Idx) (h : (i 0).val < 1024) : (dats m 0 c).arrAt 6 cfg0.N i = a5 m c i := by
  refine (entry6 m c i fun t _ hi => ?_).trans ?_
  · obtain ⟨-, -, -, -, -, -, q0, q1⟩ := idx t
    have h2 : win0_6.index t (0 : Fin 2) * 1024 ≤ (i 0).val := ((mem_blk t i).1 hi 0).1
    omega
  · blk_point [V]

/-- The output array after the run is the reference's. -/
theorem final : (dats m 0 c).arrAt 6 cfg0.N
    = Cert.FfnOneRefIdeal.Read.val_main_v38 (F := Ideal) (a0 m c) (a1 m c) (a2 m c) (a3 m c) (a4 m c) (a5 m c) := by
  funext i
  have e : i = ix2 (i 0) (i 1) := by
    funext a; match a with | 0 => rfl | 1 => rfl
  by_cases h : (i 0).val < 1024
  · rw [final_head m c i h, e]
    exact (Cert.FfnOneRefIdeal.At.head_at _ _ _ _ _ _ _ _ h).symm
  · rw [final_tail m c i (by omega), e]
    exact (Cert.FfnOneRefIdeal.At.tail_at _ _ _ _ _ _ _ _ (by omega)).symm

end Cert.FfnOneIdeal.Val
end
-- ==== Proof.lean ====
/- The certificate's claims, assembled from the frames, the runs and the values. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Pre_finite
public import proofs.«01_k».proof.Proof.Gen.KernelIdeal.Value
public import proofs.«01_k».proof.Proof.Gen.FfnIdeal.Value
public import proofs.«01_k».proof.Proof.Gen.ReferenceIdeal.Run
public import proofs.«01_k».proof.Proof.Gen.ReferenceIdeal.Read
public import proofs.«01_k».proof.Proof.Gen.FfnRefIdeal.Run
public import proofs.«01_k».proof.Proof.Gen.FfnRefIdeal.Read
public import proofs.«01_k».proof.Proof.Gen.FfnOne
public import proofs.«01_k».proof.Proof.Gen.FfnOne.Skeleton
public import proofs.«01_k».proof.Proof.Gen.FfnOne.Launch
public import proofs.«01_k».proof.Proof.Gen.FfnOne.Points
public import proofs.«01_k».proof.Proof.Gen.FfnOne.Frame
public import proofs.«01_k».proof.Proof.Gen.FfnOneIdeal
public import proofs.«01_k».proof.Proof.Gen.FfnOneIdeal.Skeleton
public import proofs.«01_k».proof.Proof.Gen.FfnOneIdeal.Launch
public import proofs.«01_k».proof.Proof.Gen.FfnOneIdeal.Points
public import proofs.«01_k».proof.Proof.Gen.FfnOneIdeal.Frame
public import proofs.«01_k».proof.Proof.Gen.FfnOneIdeal.Value
public import proofs.«01_k».proof.Proof.Gen.FfnOneRefIdeal
public import proofs.«01_k».proof.Proof.Gen.FfnOneRefIdeal.Run
public import proofs.«01_k».proof.Proof.Gen.FfnOneRefIdeal.Read
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvIdeal.Value
public import proofs.«01_k».proof.Proof.Gen.QkvRefIdeal.Run
public import proofs.«01_k».proof.Proof.Gen.QkvRefIdeal.Read
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutIdeal.Value
public import proofs.«01_k».proof.Proof.Gen.OutRefIdeal.Run
public import proofs.«01_k».proof.Proof.Gen.OutRefIdeal.Read
public import Idealize.ShloMosaic.Adequacy
public import Idealize.ShloMosaic.Init
public import Idealize.ShloMosaic.Lib.Claim
public import proofs.«01_k».proof.Proof.FfnVal
public import proofs.«01_k».proof.Proof.AttnVal
public import proofs.«01_k».proof.Proof.QkvVal
public import proofs.«01_k».proof.Proof.OutVal
public import proofs.«01_k».proof.Proof.FfnOneVal

@[expose] public section

noncomputable section

namespace Cert.Proof

open Idealize.ShloMosaic Idealize.SL.Sem Cert.Kernel

set_option maxHeartbeats 2000000 in
theorem attention : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  pair_intro
  · run_from Cert.KernelIdeal.Value.run m g
  · run_from Cert.ReferenceIdeal.Value.run m' g'
    obtain ⟨h0, h1, h2, h3, h4, h5, h6, h7, h8, h9, h10⟩ := hagree c
    obtain ⟨p0, p1, p9⟩ := hpre c
    rw [Cert.ReferenceIdeal.Read.val_main_v103_eq, h0, h1, h2, h6, h7, h8, h9, h10]
    exact (Cert.KernelIdeal.Val.final m c (fun i => Cert.KernelIdeal.Val.real_of (congrFun p0 i)) (fun i => Cert.KernelIdeal.Val.real_of (congrFun p1 i))
      (fun i => Cert.KernelIdeal.Val.real_of (congrFun p9 i))).symm

set_option maxRecDepth 16384 in
set_option maxHeartbeats 2000000 in
theorem projection : Cert.algebraic_QkvIdeal_QkvRefIdeal (hQkvIdeal := Cert.QkvIdeal.Gen.facts)
    (hQkvRefIdeal := Cert.QkvRefIdeal.Gen.facts) := by
  pair_intro
  · run_from Cert.QkvIdeal.Value.run_blocks m g
  · run_from Cert.QkvRefIdeal.Value.run m' g'
    · exact (Cert.QkvRefIdeal.Read.val_main_v14_eq _ _).trans (Cert.QkvIdeal.Val.final8 m c).symm
    · exact (Cert.QkvRefIdeal.Read.val_main_v17_eq _ _ _).trans (Cert.QkvIdeal.Val.final9 m c).symm
    · exact (Cert.QkvRefIdeal.Read.val_main_v18_eq _).trans (Cert.QkvIdeal.Val.final10 m c).symm
    · exact (Cert.QkvRefIdeal.Read.val_main_v19_eq _).trans (Cert.QkvIdeal.Val.final11 m c).symm
    · exact (Cert.QkvRefIdeal.Read.val_main_v20_eq _).trans (Cert.QkvIdeal.Val.final12 m c).symm
    · exact (Cert.QkvRefIdeal.Read.val_main_v21_eq _).trans (Cert.QkvIdeal.Val.final13 m c).symm
    · exact (Cert.QkvRefIdeal.Read.val_main_v22_eq _).trans (Cert.QkvIdeal.Val.final14 m c).symm

set_option maxRecDepth 16384 in
set_option maxHeartbeats 2000000 in
theorem halfstep : Cert.algebraic_FfnOneIdeal_FfnOneRefIdeal (hFfnOneIdeal := Cert.FfnOneIdeal.Gen.facts)
    (hFfnOneRefIdeal := Cert.FfnOneRefIdeal.Gen.facts) := by
  pair_intro
  · run_from Cert.FfnOneIdeal.Value.run_blocks m g
  · run_from Cert.FfnOneRefIdeal.Value.run m' g'
    obtain ⟨h0, h1, h2, h3, h4, h5⟩ := hagree c
    rw [Cert.FfnOneRefIdeal.Read.val_main_v38_eq, h0, h1, h2, h3, h4, h5]
    exact (Cert.FfnOneIdeal.Val.final m c).symm

theorem claim : Cert.Claim := ⟨Cert.Kernel.Gen.facts, Cert.KernelIdeal.Gen.facts, Cert.ReferenceIdeal.Gen.facts, Cert.Ffn.Gen.facts, Cert.FfnIdeal.Gen.facts, Cert.FfnRefIdeal.Gen.facts, Cert.Qkv.Gen.facts, Cert.QkvIdeal.Gen.facts, Cert.QkvRefIdeal.Gen.facts,
    Cert.Out.Gen.facts, Cert.OutIdeal.Gen.facts, Cert.OutRefIdeal.Gen.facts, Cert.FfnOne.Gen.facts, Cert.FfnOneIdeal.Gen.facts, Cert.FfnOneRefIdeal.Gen.facts, Cert.Pre_finite.Gen.facts, by
  refine ⟨?_, ?_, ?_, ?_, ?_, ?_, ?_, ?_, ?_, ?_, ?_, ?_, ?_, ?_, ?_, ?_, ?_, ?_, ?_, ?_, ?_, ?_, ?_, ?_, ?_, ?_, ?_⟩
  · exact fun m g _ => Cert.Kernel.Gen.frame m g
  · exact fun m g _ => Cert.KernelIdeal.Gen.frame m g
  · exact fun m g _ => Cert.KernelIdeal.Gen.frame m g
  · exact fun m g _ => (θ_run Cert.ReferenceIdeal.defs _ _).mono
      (fun r h => ⟨fun c => (h c).2, sem_eq_zero_of_no_sems (by decide) r.2⟩) (Cert.ReferenceIdeal.Value.run m g)
  · exact fun m g _ => (θ_run Cert.ReferenceIdeal.defs _ _).mono
      (fun r h => ⟨fun c => (h c).2, sem_eq_zero_of_no_sems (by decide) r.2⟩) (Cert.ReferenceIdeal.Value.run m g)
  · exact fun m g _ => Cert.Ffn.Gen.frame m g
  · exact fun m g _ => Cert.FfnIdeal.Gen.frame m g
  · exact fun m g _ => (θ_run Cert.FfnRefIdeal.defs _ _).mono
      (fun r h => ⟨fun c => (h c).2, sem_eq_zero_of_no_sems (by decide) r.2⟩) (Cert.FfnRefIdeal.Value.run m g)
  · exact fun m g _ => Cert.Qkv.Gen.frame m g
  · exact fun m g _ => Cert.QkvIdeal.Gen.frame m g
  · exact fun m g _ => (θ_run Cert.QkvRefIdeal.defs _ _).mono
      (fun r h => ⟨fun c => (h c).2.2.2.2.2.2.2, sem_eq_zero_of_no_sems (by decide) r.2⟩) (Cert.QkvRefIdeal.Value.run m g)
  · exact fun m g _ => Cert.Out.Gen.frame m g
  · exact fun m g _ => Cert.OutIdeal.Gen.frame m g
  · exact fun m g _ => (θ_run Cert.OutRefIdeal.defs _ _).mono
      (fun r h => ⟨fun c => (h c).2, sem_eq_zero_of_no_sems (by decide) r.2⟩) (Cert.OutRefIdeal.Value.run m g)
  · exact fun m g _ => Cert.FfnOne.Gen.frame m g
  · exact fun m g _ => Cert.FfnOneIdeal.Gen.frame m g
  · exact fun m g _ => (θ_run Cert.FfnOneRefIdeal.defs _ _).mono
      (fun r h => ⟨fun c => (h c).2, sem_eq_zero_of_no_sems (by decide) r.2⟩) (Cert.FfnOneRefIdeal.Value.run m g)
  · exact ⟨IdealRules.named_const.statement Cert.KernelIdeal.κ "slope0" .f32 0xBF38AA3B#32 _ rfl,
      IdealRules.named_const.statement Cert.KernelIdeal.κ "mask" .f32 0xF149F2CA#32 _ rfl,
      IdealRules.named_const.statement Cert.KernelIdeal.κ "slope1" .f32 0xBEB8AA3B#32 _ rfl,
      IdealRules.named_const.statement Cert.KernelIdeal.κ "slope2" .f32 0xBE38AA3B#32 _ rfl,
      IdealRules.named_const.statement Cert.KernelIdeal.κ "slope3" .f32 0xBDB8AA3B#32 _ rfl,
      IdealRules.named_const.statement Cert.KernelIdeal.κ "slope4" .f32 0xBD38AA3B#32 _ rfl,
      IdealRules.named_const.statement Cert.KernelIdeal.κ "slope5" .f32 0xBCB8AA3B#32 _ rfl,
      IdealRules.named_const.statement Cert.KernelIdeal.κ "slope6" .f32 0xBC38AA3B#32 _ rfl,
      IdealRules.named_const.statement Cert.KernelIdeal.κ "slope7" .f32 0xBBB8AA3B#32 _ rfl,
      IdealRules.named_const.statement Cert.KernelIdeal.κ "log2e" .f32 0x3FB8AA3B#32 _ rfl⟩
  · exact attention
  · trivial
  · pair_intro
    · run_from Cert.FfnIdeal.Value.run m g
    · run_from Cert.FfnRefIdeal.Value.run m' g'
      obtain ⟨h0, h1, h2, h3, h4⟩ := hagree c
      rw [Cert.FfnRefIdeal.Read.val_main_v35_eq, h0, h1, h2, h3, h4]
      exact (Cert.FfnIdeal.Val.final m c).symm
  · trivial
  · exact projection
  · trivial
  · pair_intro
    · run_from Cert.OutIdeal.Value.run_blocks m g
    · run_from Cert.OutRefIdeal.Value.run m' g'
      rw [Cert.OutRefIdeal.Read.val_main_v16_eq]
      exact (Cert.OutIdeal.Val.final m c).symm
  · trivial
  · exact halfstep⟩

end Cert.Proof

end
